-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sound [hPre_sound : Cert.Pre_sound.Facts] (m : (ℓ : Loc Cert.KernelIdeal.nD Cert.KernelIdeal.τ Cert.KernelIdeal.sig) → Buf (Elt Ideal) ℓ) : Prop :=
  ∀ c : Dev Cert.KernelIdeal.nD,
    (Cert.Pre_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound [hPre_sound : Cert.Pre_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sound [hKernelIdeal : Cert.KernelIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sound [hReferenceIdeal : Cert.ReferenceIdeal.Facts] [hPre_sound : Cert.Pre_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_sound [hKernelIdeal : Cert.KernelIdeal.Facts] [hReferenceIdeal : Cert.ReferenceIdeal.Facts] [hPre_sound : Cert.Pre_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sound : Cert.Pre_sound.Facts),
    quiescent_Kernel (hKernel := hKernel)
    ∧ quiescent_KernelIdeal (hKernelIdeal := hKernelIdeal)
    ∧ quiescent_KernelIdeal_pre_sound (hKernelIdeal := hKernelIdeal) (hPre_sound := hPre_sound)
    ∧ quiescent_ReferenceIdeal (hReferenceIdeal := hReferenceIdeal)
    ∧ quiescent_ReferenceIdeal_pre_sound (hReferenceIdeal := hReferenceIdeal) (hPre_sound := hPre_sound)
    ∧ preserves_Kernel_KernelIdeal
    ∧ algebraic_KernelIdeal_ReferenceIdeal_pre_sound (hKernelIdeal := hKernelIdeal) (hReferenceIdeal := hReferenceIdeal) (hPre_sound := hPre_sound)
-- ==== Pre_sound.lean ====
abbrev S2x128x1024 : Shape := ⟨3, ![2, 128, 1024]⟩
abbrev S30522x1024 : Shape := ⟨2, ![30522, 1024]⟩
abbrev S30522x32 : Shape := ⟨2, ![30522, 32]⟩
abbrev S2x128 : Shape := ⟨2, ![2, 128]⟩
abbrev S_ : Shape := ⟨0, ![]⟩

class Facts : Prop where
  bitsLt_bf16_f32 : FTy.bits .bf16 < FTy.bits .f32
  bcast_S_S2x128x1024 : S_.BroadcastsInDim S2x128x1024 (![] : Fin 0 → Fin S2x128x1024.rank)
  reducesTo_S2x128x1024_S_d0_1_2 : S2x128x1024.ReducesTo [0, 1, 2] S_
  h_S_ : 0 < S_.numel
  bcast_S_S30522x32 : S_.BroadcastsInDim S30522x32 (![] : Fin 0 → Fin S30522x32.rank)
  reducesTo_S30522x32_S_d0_1 : S30522x32.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v11 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v11 main_v17
  main_v18

def fn {F : FTy → Type} [FloatOps F] (main_arg0 : FVec F S2x128x1024 .bf16) (main_arg1 : FVec F S30522x1024 .fp8e4m3) (main_arg2 : IVec S30522x32 8) (main_arg3 : IVec S2x128 32) : IVec S_ 1 :=
  let main_v0 : FVec F S2x128x1024 .f32 := (extf .f32 · bitsLt_bf16_f32) main_arg0
  let main_v1 : FVec F S2x128x1024 .f32 := Host.absf main_v0
  let main_cst : FVec F S_ .f32 := constant S_ .f32 0x7F7F0000#32
  let main_v2 : FVec F S2x128x1024 .f32 := broadcastInDim S2x128x1024 ![] bcast_S_S2x128x1024 main_cst
  let main_v3 : IVec S2x128x1024 1 := cmpf .ole main_v1 main_v2
  let main_c : IVec S_ 1 := constantI S_ 1 1#1
  let main_v4 : IVec S_ 1 := (fun x v => Host.reduce IntOp.andi x v reducesTo_S2x128x1024_S_d0_1_2 h_S_) main_v3 main_c
  let main_c_0 : IVec S_ 8 := constantI S_ 8 1#8
  let main_v5 : IVec S30522x32 8 := broadcastInDim S30522x32 ![] bcast_S_S30522x32 main_c_0
  let main_v6 : IVec S30522x32 1 := cmpi .uge main_arg2 main_v5
  let main_c_1 : IVec S_ 8 := constantI S_ 8 254#8
  let main_v7 : IVec S30522x32 8 := broadcastInDim S30522x32 ![] bcast_S_S30522x32 main_c_1
  let main_v8 : IVec S30522x32 1 := cmpi .ule main_arg2 main_v7
  let main_v9 : IVec S30522x32 1 := andi main_v6 main_v8
  let main_c_2 : IVec S_ 1 := constantI S_ 1 1#1
  let main_v10 : IVec S_ 1 := (fun x v => Host.reduce IntOp.andi x v reducesTo_S30522x32_S_d0_1 h_S_) main_v9 main_c_2
  let main_v11 : IVec S_ 1 := andi main_v4 main_v10
  let main_c_3 : IVec S_ 32 := constantI S_ 32 0#32
  let main_v12 : IVec S2x128 32 := broadcastInDim S2x128 ![] bcast_S_S2x128 main_c_3
  let main_v13 : IVec S2x128 1 := cmpi .sge main_arg3 main_v12
  let main_c_4 : IVec S_ 32 := constantI S_ 32 30522#32
  let main_v14 : IVec S2x128 32 := broadcastInDim S2x128 ![] bcast_S_S2x128 main_c_4
  let main_v15 : IVec S2x128 1 := cmpi .slt main_arg3 main_v14
  let main_v16 : IVec S2x128 1 := andi main_v13 main_v15
  fn_part1 (F := F) main_v11 main_v16
-- ==== Kernel.lean ====
abbrev S2x128x1024 : Shape := ⟨3, ![2, 128, 1024]⟩
abbrev S30522x1024 : Shape := ⟨2, ![30522, 1024]⟩
abbrev S30522x32 : Shape := ⟨2, ![30522, 32]⟩
abbrev S2x128 : Shape := ⟨2, ![2, 128]⟩
abbrev S256x1024 : Shape := ⟨2, ![256, 1024]⟩
abbrev S198x1024 : Shape := ⟨2, ![198, 1024]⟩
abbrev S30720x1024 : Shape := ⟨2, ![30720, 1024]⟩
abbrev S198x32 : Shape := ⟨2, ![198, 32]⟩
abbrev S30720x32 : Shape := ⟨2, ![30720, 32]⟩
abbrev S1x256 : Shape := ⟨2, ![1, 256]⟩
abbrev S256x32 : Shape := ⟨2, ![256, 32]⟩
abbrev S1024x1024 : Shape := ⟨2, ![1024, 1024]⟩
abbrev S1024x32 : Shape := ⟨2, ![1024, 32]⟩
abbrev S1024x256 : Shape := ⟨2, ![1024, 256]⟩
abbrev S8x256 : Shape := ⟨2, ![8, 256]⟩
abbrev S32x32x256 : Shape := ⟨3, ![32, 32, 256]⟩
abbrev S32x256 : Shape := ⟨2, ![32, 256]⟩
abbrev S32x1x256 : Shape := ⟨3, ![32, 1, 256]⟩
abbrev S128x32 : Shape := ⟨2, ![128, 32]⟩
abbrev S128x96 : Shape := ⟨2, ![128, 96]⟩
abbrev S128x128 : Shape := ⟨2, ![128, 128]⟩
abbrev S128x128x1 : Shape := ⟨3, ![128, 128, 1]⟩
abbrev S256x128 : Shape := ⟨2, ![256, 128]⟩
abbrev S256x256 : Shape := ⟨2, ![256, 256]⟩
abbrev S256 : Shape := ⟨1, ![256]⟩

abbrev nBuf : Space → Nat
  | .hbm => 13
  | .vmem => 13
  | .smem => 0
  | _ => 0

abbrev bufTy : (tb : Table) → Fin (tcTables nBuf tb) → BufTy
  | .hbm, ⟨0, _⟩ => ⟨S2x128x1024, .bf16⟩
  | .hbm, ⟨1, _⟩ => ⟨S30522x1024, .fp8e4m3⟩
  | .hbm, ⟨2, _⟩ => ⟨S30522x32, .i8⟩
  | .hbm, ⟨3, _⟩ => ⟨S2x128, .i32⟩
  | .hbm, ⟨4, _⟩ => ⟨S256x1024, .bf16⟩
  | .hbm, ⟨5, _⟩ => ⟨S198x1024, .fp8e4m3⟩
  | .hbm, ⟨6, _⟩ => ⟨S30720x1024, .fp8e4m3⟩
  | .hbm, ⟨7, _⟩ => ⟨S198x32, .i8⟩
  | .hbm, ⟨8, _⟩ => ⟨S30720x32, .i8⟩
  | .hbm, ⟨9, _⟩ => ⟨S1x256, .i32⟩
  | .hbm, ⟨10, _⟩ => ⟨S1x256, .f32⟩
  | .hbm, ⟨11, _⟩ => ⟨S256x1024, .fp8e4m3⟩
  | .hbm, ⟨12, _⟩ => ⟨S256x32, .i8⟩
  | .local _ .vmem, ⟨0, _⟩ => ⟨S256x1024, .bf16⟩
  | .local _ .vmem, ⟨1, _⟩ => ⟨S1024x1024, .fp8e4m3⟩
  | .local _ .vmem, ⟨2, _⟩ => ⟨S1024x1024, .fp8e4m3⟩
  | .local _ .vmem, ⟨3, _⟩ => ⟨S1024x32, .i8⟩
  | .local _ .vmem, ⟨4, _⟩ => ⟨S1024x32, .i8⟩
  | .local _ .vmem, ⟨5, _⟩ => ⟨S1x256, .i32⟩
  | .local _ .vmem, ⟨6, _⟩ => ⟨S1x256, .f32⟩
  | .local _ .vmem, ⟨7, _⟩ => ⟨S256x1024, .fp8e4m3⟩
  | .local _ .vmem, ⟨8, _⟩ => ⟨S256x32, .i8⟩
  | .local _ .vmem, ⟨9, _⟩ => ⟨S1024x256, .bf16⟩
  | .local _ .vmem, ⟨10, _⟩ => ⟨S8x256, .f32⟩
  | .local _ .vmem, ⟨11, _⟩ => ⟨S8x256, .f32⟩
  | .local _ .vmem, ⟨12, _⟩ => ⟨S8x256, .f32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![30], ![false]⟩

def k0_cond3 (i : grid0.Coords) : BitVec 1 :=
  let arg0 : BitVec 32 := BitVec.ofNat 32 (i 0).val
  let c29_i32_2 : BitVec 32 := 29#32
  let v6 : BitVec 1 := Scalar.cmpi .eq arg0 c29_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2x128x1024 : Shape := ⟨3, ![2, 128, 1024]⟩
abbrev S30522x1024 : Shape := ⟨2, ![30522, 1024]⟩
abbrev S30522x32 : Shape := ⟨2, ![30522, 32]⟩
abbrev S2x128 : Shape := ⟨2, ![2, 128]⟩
abbrev S256x1024 : Shape := ⟨2, ![256, 1024]⟩
abbrev S256x1 : Shape := ⟨2, ![256, 1]⟩
abbrev S1x256 : Shape := ⟨2, ![1, 256]⟩
abbrev S256x32 : Shape := ⟨2, ![256, 32]⟩
abbrev S256x32x32 : Shape := ⟨3, ![256, 32, 32]⟩
abbrev S256x32x1 : Shape := ⟨3, ![256, 32, 1]⟩
abbrev S30522x32x32 : Shape := ⟨3, ![30522, 32, 32]⟩
abbrev S30522x32x1 : Shape := ⟨3, ![30522, 32, 1]⟩
abbrev S256x30522 : Shape := ⟨2, ![256, 30522]⟩
abbrev S256 : Shape := ⟨1, ![256]⟩

abbrev nBuf : Space → Nat
  | .hbm => 9
  | .vmem => 7
  | .smem => 0
  | _ => 0

abbrev bufTy : (tb : Table) → Fin (tcTables nBuf tb) → BufTy
  | .hbm, ⟨0, _⟩ => ⟨S2x128x1024, .bf16⟩
  | .hbm, ⟨1, _⟩ => ⟨S30522x1024, .fp8e4m3⟩
  | .hbm, ⟨2, _⟩ => ⟨S30522x32, .i8⟩
  | .hbm, ⟨3, _⟩ => ⟨S2x128, .i32⟩
  | .hbm, ⟨4, _⟩ => ⟨S256x1024, .bf16⟩
  | .hbm, ⟨5, _⟩ => ⟨S256x1, .i32⟩
  | .hbm, ⟨6, _⟩ => ⟨S1x256, .f32⟩
  | .hbm, ⟨7, _⟩ => ⟨S256x1024, .fp8e4m3⟩
  | .hbm, ⟨8, _⟩ => ⟨S256x32, .i8⟩
  | .local _ .vmem, ⟨0, _⟩ => ⟨S256x1024, .bf16⟩
  | .local _ .vmem, ⟨1, _⟩ => ⟨S30522x1024, .fp8e4m3⟩
  | .local _ .vmem, ⟨2, _⟩ => ⟨S30522x32, .i8⟩
  | .local _ .vmem, ⟨3, _⟩ => ⟨S256x1, .i32⟩
  | .local _ .vmem, ⟨4, _⟩ => ⟨S1x256, .f32⟩
  | .local _ .vmem, ⟨5, _⟩ => ⟨S256x1024, .fp8e4m3⟩
  | .local _ .vmem, ⟨6, _⟩ => ⟨S256x32, .i8⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30522x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30522x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x32 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- What the runs of the body of the kernel as printed share. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 0).val) 29#32)) 0#32) = 1#1
/-- It holds at the points before point 29 — decided over the grid. -/
theorem hcond0_1 : ∀ t : Fin cfg0.N, cond0_1 (grid0.coords t) ↔ t.val < 29 :=
  (by decide +kernel : ∀ t : Fin grid0.N, cond0_1 (grid0.coords t) ↔ t.val < 29)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 30 = 29 :=
  (fun t => by
    have ht : t.val < 30 := Nat.lt_of_lt_of_eq t.isLt N_0
    have e0 : (grid0.coords t 0).val = t.val / 1 % 30 := Pipeline.Grid.coords_val t 0 (by decide) rfl
    simp only [cond0_2, k0_cond3, e0]
    word_cmp
   : ∀ t : Fin grid0.N, cond0_2 (grid0.coords t) ↔ t.val % 30 = 29)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x32 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x256 .bf16 := Memref.whole cc0_scratch0
abbrev scM0_1 : Memref sig .tc .vmem S8x256 .f32 := Memref.whole cc0_scratch1
abbrev scM0_2 : Memref sig .tc .vmem S8x256 .f32 := Memref.whole cc0_scratch2
abbrev scM0_3 : Memref sig .tc .vmem S8x256 .f32 := Memref.whole cc0_scratch3
/-- The scratch `arg8` the kernel carries between points, as a view: what it holds is stated through it. -/
abbrev VS0_0 : View sig .tc .vmem S1024x256 .bf16 := scM0_0.view
/-- The scratch `arg9` the kernel carries between points, as a view: what it holds is stated through it. -/
abbrev VS0_1 : View sig .tc .vmem S8x256 .f32 := scM0_1.view
/-- The scratch `arg10` the kernel carries between points, as a view: what it holds is stated through it. -/
abbrev VS0_2 : View sig .tc .vmem S8x256 .f32 := scM0_2.view
/-- The scratch `arg11` the kernel carries between points, as a view: what it holds is stated through it. -/
abbrev VS0_3 : View sig .tc .vmem S8x256 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRunA.lean ====
/- The body of the kernel as printed run at the first point of the grid. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6) at anything, handed back at some contents nothing names. -/
noncomputable def kernelRun0_A (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) :
    Σ' (LS0 : List (View.Piece (Elt F) S1024x256 .bf16)), Σ' (LS1 : List (View.Piece (Elt F) S8x256 .f32)), Σ' (LS2 : List (View.Piece (Elt F) S8x256 .f32)), { LS3 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_mxfp8_xent_eq_skeleton]; unfold cc0_mxfp8_xent_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]; · iexists _; iexact HS0
    isplitl [HS1]; · iexists _; iexact HS1
    isplitl [HS2]; · iexists _; iexact HS2
    iexists _; iexact HS3

end Cert.Kernel.Gen

end
-- ==== Proof.KernelRunB.lean ====
/- The body of the kernel as printed run at a point between the first and the last of the grid. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the body's stores leave in each output's staging memref, as pieces (last first) IN CASE B (`scf.if` 0 not taken, `scf.if` 1 taken, `scf.if` 2 not taken: points 1, 2, … 28: 28 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6) at anything, handed back at some contents nothing names. -/
noncomputable def kernelRun0_B (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) :
    Σ' (LS0 : List (View.Piece (Elt F) S1024x256 .bf16)), Σ' (LS1 : List (View.Piece (Elt F) S8x256 .f32)), Σ' (LS2 : List (View.Piece (Elt F) S8x256 .f32)), { LS3 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨[], ?_, ?_, ?_, fun E K => ?run⟩
  case run =>
    simp only [cc0_mxfp8_xent_eq_skeleton]; unfold cc0_mxfp8_xent_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1; obtain rfl := harg10.eq_unread hfs2; obtain rfl := harg11.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg8.read_unread _
      iexact HS0
    isplitl [HS1]; · iexists _; iexact HS1
    isplitl [HS2]; · iexists _; iexact HS2
    iexists _; iexact HS3

end Cert.Kernel.Gen

end
-- ==== Proof.KernelRunC.lean ====
/- The body of the kernel as printed run at the last point of the grid. -/
module

public import proofs.«01_k».proof.Proof.Gen.Kernel.Skeleton
public import proofs.«01_k».proof.Proof.KernelRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the body's stores leave in each output's staging memref, as pieces (last first) IN CASE C (`scf.if` 0 not taken, `scf.if` 1 not taken, `scf.if` 2 taken: points 29), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5, 6) at anything, handed back at some contents nothing names. -/
noncomputable def kernelRun0_C (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) :
    Σ' (LS0 : List (View.Piece (Elt F) S1024x256 .bf16)), Σ' (LS1 : List (View.Piece (Elt F) S8x256 .f32)), Σ' (LS2 : List (View.Piece (Elt F) S8x256 .f32)), { LS3 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨[], ?_, ?_, ?_, fun E K => ?run⟩
  case run =>
    simp only [cc0_mxfp8_xent_eq_skeleton]; unfold cc0_mxfp8_xent_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1; obtain rfl := harg10.eq_unread hfs2; obtain rfl := harg11.eq_unread hfs3
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _; isplitr; · ipureintro; exact harg8.read_unread _
      iexact HS0
    isplitl [HS1]; · iexists _; iexact HS1
    isplitl [HS2]; · iexists _; iexact HS2
    iexists _; iexact HS3

end Cert.Kernel.Gen

end
-- ==== Proof.KernelFrame.lean ====
/- The frame of the kernel as printed: what the carried scratch holds point by point, the body at every point, the run. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg8`, which the kernel carries between points, cover it: 1 piece of `S1024x256` tiling it (Lib/Ring.lean `Piece.tiledL`). -/
theorem scover0_A_0 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3).1 S1024x256.size (by sl_kernel_rfl) y

/-- What case A leaves in scratch `arg8`: its pieces read back over junk. -/
def sout0_A_0 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) : Vec F S1024x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3).1)

/-- Case A's pieces for scratch `arg9`, which the kernel carries between points, cover it: 2 pieces of `S8x256` tiling it (Lib/Ring.lean `Piece.tiledL`). -/
theorem scover0_A_1 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.1 S8x256.size (by sl_kernel_rfl) y

/-- What case A leaves in scratch `arg9`: its pieces read back over junk. -/
def sout0_A_1 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) : Vec F S8x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.1)

/-- Case A's pieces for scratch `arg10`, which the kernel carries between points, cover it: 2 pieces of `S8x256` tiling it (Lib/Ring.lean `Piece.tiledL`). -/
theorem scover0_A_2 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.2.1 S8x256.size (by sl_kernel_rfl) y

/-- What case A leaves in scratch `arg10`: its pieces read back over junk. -/
def sout0_A_2 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) : Vec F S8x256 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.2.1)

/-- Case A's pieces for scratch `arg11`, which the kernel carries between points, cover it: 2 pieces of `S8x256` tiling it (Lib/Ring.lean `Piece.tiledL`). -/
theorem scover0_A_3 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.2.2.1 S8x256.size (by sl_kernel_rfl) y

/-- What case A leaves in scratch `arg11`: its pieces read back over junk. -/
def sout0_A_3 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) : Vec F S8x256 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3).2.2.2.1)

/-- Case B stores nothing into scratch `arg8`: it holds what the point before left. -/
def sout0_B_0 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S1024x256 .bf16 := xs0

/-- Case B's pieces for scratch `arg9`, which the kernel carries between points, cover it: 1 piece of `S8x256` tiling it (Lib/Ring.lean `Piece.tiledL`). -/
theorem scover0_B_1 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) (y : S8x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.1 S8x256.size (by sl_kernel_rfl) y

/-- What case B leaves in scratch `arg9`: its pieces read back over junk. -/
def sout0_B_1 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S8x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.1)

/-- Case B's pieces for scratch `arg10`, which the kernel carries between points, cover it: 1 piece of `S8x256` tiling it (Lib/Ring.lean `Piece.tiledL`). -/
theorem scover0_B_2 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) (y : S8x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.1 S8x256.size (by sl_kernel_rfl) y

/-- What case B leaves in scratch `arg10`: its pieces read back over junk. -/
def sout0_B_2 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S8x256 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.1)

/-- Case B's pieces for scratch `arg11`, which the kernel carries between points, cover it: 1 piece of `S8x256` tiling it (Lib/Ring.lean `Piece.tiledL`). -/
theorem scover0_B_3 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) (y : S8x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.2.1 S8x256.size (by sl_kernel_rfl) y

/-- What case B leaves in scratch `arg11`: its pieces read back over junk. -/
def sout0_B_3 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S8x256 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.2.1)

/-- Case C stores nothing into scratch `arg8`: it holds what the point before left. -/
def sout0_C_0 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S1024x256 .bf16 := xs0

/-- Case C's pieces for scratch `arg9`, which the kernel carries between points, cover it: 1 piece of `S8x256` tiling it (Lib/Ring.lean `Piece.tiledL`). -/
theorem scover0_C_1 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) (y : S8x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.1 S8x256.size (by sl_kernel_rfl) y

/-- What case C leaves in scratch `arg9`: its pieces read back over junk. -/
def sout0_C_1 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S8x256 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.1)

/-- Case C's pieces for scratch `arg10`, which the kernel carries between points, cover it: 1 piece of `S8x256` tiling it (Lib/Ring.lean `Piece.tiledL`). -/
theorem scover0_C_2 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) (y : S8x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.1 S8x256.size (by sl_kernel_rfl) y

/-- What case C leaves in scratch `arg10`: its pieces read back over junk. -/
def sout0_C_2 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S8x256 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.1)

/-- Case C's pieces for scratch `arg11`, which the kernel carries between points, cover it: 1 piece of `S8x256` tiling it (Lib/Ring.lean `Piece.tiledL`). -/
theorem scover0_C_3 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) (y : S8x256.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.2.1 S8x256.size (by sl_kernel_rfl) y

/-- What case C leaves in scratch `arg11`: its pieces read back over junk. -/
def sout0_C_3 (c : Dev nD) (i : grid0.Coords) (arg1 : Memref sig .tc .vmem S256x1024 .bf16) (harg1 : arg1.IsWhole) (arg2 : Memref sig .tc .vmem S1024x1024 .fp8e4m3) (harg2 : arg2.IsWhole) (arg3 : Memref sig .tc .vmem S1024x32 .i8) (harg3 : arg3.IsWhole) (arg4 : Memref sig .tc .vmem S1x256 .i32) (harg4 : arg4.IsWhole) (arg5 : Memref sig .tc .vmem S1x256 .f32) (harg5 : arg5.IsWhole) (arg6 : Memref sig .tc .vmem S256x1024 .fp8e4m3) (harg6 : arg6.IsWhole) (arg7 : Memref sig .tc .vmem S256x32 .i8) (harg7 : arg7.IsWhole) (arg8 : Memref sig .tc .vmem S1024x256 .bf16) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256 .f32) (harg11 : arg11.IsWhole) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) : Vec F S8x256 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 xs0 xs1 xs2 xs3).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x256 .bf16 × Vec F S8x256 .f32 × Vec F S8x256 .f32 × Vec F S8x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 30 = 0 then
      if h1 : (n + 1) < 29 then
        if h2 : (n + 1) % 30 = 29 then
          False.elim (by have hN : n + 1 < 30 := lt_of_lt_of_eq hn (show cfg0.N = 30 from N_0); omega)
        else
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 30 := lt_of_lt_of_eq hn (show cfg0.N = 30 from N_0); omega)
    else
      if h1 : (n + 1) < 29 then
        if h2 : (n + 1) % 30 = 29 then
          False.elim (by have hN : n + 1 < 30 := lt_of_lt_of_eq hn (show cfg0.N = 30 from N_0); omega)
        else
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
      else
        if h2 : (n + 1) % 30 = 29 then
          (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
        else
          False.elim (by have hN : n + 1 < 30 := lt_of_lt_of_eq hn (show cfg0.N = 30 from N_0); omega)

/-- `outsAt0` at a point of case A: that case's contents. -/
theorem outsAt0_A (c : Dev nD) (t : Fin cfg0.N) (h0 : t.val % 30 = 0) (h1 : t.val < 29) (h2 : ¬t.val % 30 = 29) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 30 = 0) (h1 : t.val < 29) (h2 : ¬t.val % 30 = 29) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 30 = 0) (h1 : ¬t.val < 29) (h2 : t.val % 30 = 29) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2)) ∗ (∃ r, prngReg c r)) := by
  cases n with
  | zero => exact absurd rfl hz
  | succ n => rfl

/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · by_cases h1 : t.val < 29
    · by_cases h2 : t.val % 30 = 29
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        by_cases hz : t.val = 0
        · rw [PhiS_castSucc m c t, PhiS_zero m c _ _ hz, PhiA0_eq]
          rw [outsAt0_A m c t h0 h1 h2]
          unfold sout0_A_0 sout0_A_1 sout0_A_2 sout0_A_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2.2 Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, H5, H6, ⟨%es0, HS0⟩, ⟨%es1, HS1⟩, ⟨%es2, HS2⟩, ⟨%es3, HS3⟩⟩
          isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
        · exfalso; have hN : t.val < 30 := lt_of_lt_of_eq t.isLt (show cfg0.N = 30 from N_0); omega
    · exfalso; omega
  · by_cases h1 : t.val < 29
    · by_cases h2 : t.val % 30 = 29
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        by_cases hz : t.val = 0
        · exfalso; have hN : t.val < 30 := lt_of_lt_of_eq t.isLt (show cfg0.N = 30 from N_0); omega
        · rw [PhiS_castSucc m c t, PhiS_pos m c _ _ hz]
          rw [outsAt0_B m c t h0 h1 h2]
          unfold sout0_B_0 sout0_B_1 sout0_B_2 sout0_B_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _ _ _ _).2.2.2.2 Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, H5, H6, HS0, ⟨%es1, HS1⟩, ⟨%es2, HS2⟩, ⟨%es3, HS3⟩⟩
          isplitl [HS0 HS1 HS2 HS3 Hg]
          · isplitl [HS0 HS1 HS2 HS3]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
    · by_cases h2 : t.val % 30 = 29
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        by_cases hz : t.val = 0
        · exfalso; have hN : t.val < 30 := lt_of_lt_of_eq t.isLt (show cfg0.N = 30 from N_0); omega
        · rw [PhiS_castSucc m c t, PhiS_pos m c _ _ hz]
          rw [outsAt0_C m c t h0 h1 h2]
          unfold sout0_C_0 sout0_C_1 sout0_C_2 sout0_C_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _ _ _).2.2.2.2 Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [HS0]; · iexact HS0
          isplitl [HS1]; · iexact HS1
          isplitl [HS2]; · iexact HS2
          isplitl [HS3]; · iexact HS3
          iintro ⟨H0, H1, H2, H3, H4, H5, H6, HS0, ⟨%es1, HS1⟩, ⟨%es2, HS2⟩, ⟨%es3, HS3⟩⟩
          isplitl [HS0 HS1 HS2 HS3 Hg]
          · isplitl [HS0 HS1 HS2 HS3]
            · isplitl [HS0]
              · iexact HS0
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexact H6
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.Tile.lean ====
/- What one tile of the vocabulary does, as a function: 1024 rows of quantised weights in four chunks of 256, each
   widened, multiplied with the widened inputs and folded into a running maximum, a running sum of exponentials and a
   running label logit, per sublane. -/
module

public import proofs.«01_k».proof.Proof.Gen.KernelIdeal.Skeleton

@[expose] public section

set_option maxRecDepth 16384

noncomputable section

namespace Cert.KernelIdeal.Body

open Cert.KernelIdeal.Gen
open Idealize.ShloMosaic Idealize.SL.Sem

variable {F : FTy → Type} [FloatOps F] [Named F]

/-! ## Widening a chunk of weights -/

/-- The scale bytes of 256 rows as bfloat16 words (`byte << 7`), two rows to a word, padded to 128 lanes. -/
def scaleWords (b : Vec F S256x32 .i8) : IVec S128x128 32 :=
  concatenate S128x128 1
    [⟨S128x32, bitcast S128x32 32
        (trunci 16 (shli (extui 32 (shapeCast S256x32 b shapeCasts_S256x32_S256x32) natLt_8_32) (broadcast S256x32 7#32)) natLt_16_32)
        bitcasts_S256x32_w16_S128x32_w32⟩,
      ⟨S128x96, broadcast S128x96 0#32⟩] concatenates_S128x32_S128x96_S128x128_d1

/-- The lane number. -/
def lanes : IVec S128x128 32 := iota .tc S128x128 32 [1] iota_S128x128_d1_w32

/-- The lane number over 32, rounded down. -/
def laneQuot : IVec S128x128 32 :=
  select
    (andi
      (cmpi .ne
        (subi (extui 32 (cmpi .sgt lanes (broadcast S128x128 0#32)) natLt_1_32)
          (extui 32 (cmpi .slt lanes (broadcast S128x128 0#32)) natLt_1_32))
        (broadcast S128x128 (Scalar.subi (Scalar.extui (Scalar.cmpi .sgt 32#32 0#32)) (Scalar.extui (Scalar.cmpi .slt 32#32 0#32)))))
      (cmpi .ne (remsi lanes (broadcast S128x128 32#32)) (broadcast S128x128 0#32)))
    (subi (divsi lanes (broadcast S128x128 32#32)) (broadcast S128x128 1#32))
    (divsi lanes (broadcast S128x128 32#32))

/-- The block of 32 that a lane of the 128 lanes starting at block `d` lies in. -/
def laneIndex (d : BitVec 32) : IVec S128x128 32 :=
  select (cmpi .slt (addi laneQuot (broadcast S128x128 d)) (broadcast S128x128 0#32))
    (addi (addi laneQuot (broadcast S128x128 d)) (broadcast S128x128 128#32))
    (addi laneQuot (broadcast S128x128 d))

/-- The scales of the 128 lanes starting at block `d`. -/
def laneScale (b : Vec F S256x32 .i8) (d : BitVec 32) : FVec F S256x128 .bf16 :=
  bitcastToFloat .bf16
    (bitcast S256x128 16
      (dynamicGather 1 (scaleWords b)
        (shapeCast S128x128 (shapeCast S128x128x1 (laneIndex d) shapeCasts_S128x128_S128x128x1) shapeCasts_S128x128x1_S128x128))
      bitcasts_S128x128_w32_S256x128_w16)

/-- 128 lanes of the widened weights: code times scale. -/
def laneBlock (q : Vec F S256x1024 .fp8e4m3) (b : Vec F S256x32 .i8) (off : Fin 2 → ℕ) (h : S256x1024.Slices off S256x128)
    (d : BitVec 32) : FVec F S256x128 .bf16 :=
  mulf (extf .bf16 (extractStridedSlice S256x128 off (shapeCast S256x1024 q shapeCasts_S256x1024_S256x1024) h) bitsLt_fp8e4m3_bf16)
    (laneScale b d)

/-- 256 rows of widened weights. -/
def wideRows (q : Vec F S256x1024 .fp8e4m3) (b : Vec F S256x32 .i8) : FVec F S256x1024 .bf16 :=
  concatenate S256x1024 1
    [⟨S256x128, laneBlock q b ![0, 0] slices_S256x1024_o0_0_S256x128 0#32⟩,
      ⟨S256x128, laneBlock q b ![0, 128] slices_S256x1024_o0_128_S256x128 4#32⟩,
      ⟨S256x128, laneBlock q b ![0, 256] slices_S256x1024_o0_256_S256x128 8#32⟩,
      ⟨S256x128, laneBlock q b ![0, 384] slices_S256x1024_o0_384_S256x128 12#32⟩,
      ⟨S256x128, laneBlock q b ![0, 512] slices_S256x1024_o0_512_S256x128 16#32⟩,
      ⟨S256x128, laneBlock q b ![0, 640] slices_S256x1024_o0_640_S256x128 20#32⟩,
      ⟨S256x128, laneBlock q b ![0, 768] slices_S256x1024_o0_768_S256x128 24#32⟩,
      ⟨S256x128, laneBlock q b ![0, 896] slices_S256x1024_o0_896_S256x128 28#32⟩]
    concatenates_S256x128_S256x128_S256x128_S256x128_S256x128_S256x128_S256x128_S256x128_S256x1024_d1

/-- The logits of 256 vocabulary rows, for the 256 inputs. -/
def chunkLogits (q : Vec F S256x1024 .fp8e4m3) (b : Vec F S256x32 .i8) (xt : Vec F S1024x256 .bf16) : FVec F S256x256 .f32 :=
  matmul dot_S256x1024_S1024x256_S256x256_1_0_0_1_n_n none (wideRows q b) xt (constant S256x256 .f32 0x00000000#32)

/-- Eight rows of the logits, from row `8k`. -/
theorem slices_eight (k : ℕ) : S256x256.Slices ![8 * (k % 32), 0] S8x256 :=
  ⟨rfl, fun a => by
    match a with
    | ⟨0, _⟩ => show 8 * (k % 32) + 8 ≤ 256; omega
    | ⟨1, _⟩ => show 0 + 256 ≤ 256; omega⟩

/-- Eight rows of a chunk's logits, from row `8k`. -/
def rows8 (lg : FVec F S256x256 .f32) (k : ℕ) : FVec F S8x256 .f32 :=
  extractStridedSlice S8x256 ![8 * (k % 32), 0] lg (slices_eight k)

/-! ## Folding a chunk into the running state -/

/-- Neighbours combined in pairs. -/
def pairUp {α : Type} (op : α → α → α) (f : ℕ → α) : ℕ → α := fun k => op (f (2 * k)) (f (2 * k + 1))

/-- Thirty-two values combined in a balanced tree. -/
def tree32 {α : Type} (op : α → α → α) (f : ℕ → α) : α := pairUp op (pairUp op (pairUp op (pairUp op (pairUp op f)))) 0

/-- The running maximum after a chunk's thirty-two groups of rows `f`. -/
def chunkM (f : ℕ → FVec F S8x256 .f32) (m : FVec F S8x256 .f32) : FVec F S8x256 .f32 := maximumf m (tree32 maximumf f)

/-- The running sum of exponentials after a chunk. -/
def chunkS (f : ℕ → FVec F S8x256 .f32) (m s : FVec F S8x256 .f32) : FVec F S8x256 .f32 :=
  addf (mulf s (exp (subf m (chunkM f m)))) (tree32 addf fun k => exp (subf (f k) (chunkM f m)))

/-- The running label logit after the first `n` groups of eight rows: where the label is a group's row, that row's logit. -/
def pick (rel : IVec S8x256 32) (base : ℕ) (f : ℕ → FVec F S8x256 .f32) (l : FVec F S8x256 .f32) : ℕ → FVec F S8x256 .f32
  | 0 => l
  | n + 1 => select (cmpi .eq rel (broadcast S8x256 (BitVec.ofNat 32 (base + 8 * n)))) (f n) (pick rel base f l n)

/-- The row number within its group of eight, from the tile's first row. -/
def rowBase (v : BitVec 32) : IVec S8x256 32 :=
  addi (iota .tc S8x256 32 [0] iota_S8x256_d0_w32) (broadcast S8x256 (Scalar.muli v 1024#32))

/-- The label, counted from the row of its group of eight in the tile. -/
def labelRel (v : BitVec 32) (lab : Vec F S1x256 .i32) : IVec S8x256 32 :=
  subi (broadcastTo S8x256 (shapeCast S1x256 lab shapeCasts_S1x256_S1x256) broadcasts_S1x256_S8x256) (rowBase v)

/-- The logits of a group of eight rows where the rows are rows of the vocabulary, and the mask elsewhere. -/
def masked (rb : IVec S8x256 32) (base : ℕ) (f : ℕ → FVec F S8x256 .f32) (k : ℕ) : FVec F S8x256 .f32 :=
  select (cmpi .slt (addi rb (broadcast S8x256 (BitVec.ofNat 32 (base + 8 * k)))) (broadcast S8x256 30522#32)) (f k)
    (broadcast S8x256 (Named.named κ "mask" 0xF149F2CA#32))

/-- The loss from the eight rows' maxima, sums and label logits. -/
def endLoss (m s l : FVec F S8x256 .f32) : FVec F S1x256 .f32 :=
  let top : FVec F S1x256 .f32 :=
    shapeCast S1x256 (multiReduction .maximumf [0] S256 m 0xFF800000#32 reduces_S8x256_S256 (.inl rfl) rfl) shapeCasts_S256_S1x256
  subf (subf (addf top (log (shapeCast S1x256
      (multiReduction .add [0] S256 (mulf s (exp (subf m (broadcastTo S8x256 top broadcasts_S1x256_S8x256)))) 0x00000000#32
        reduces_S8x256_S256 (.inl rfl) rfl) shapeCasts_S256_S1x256)))
    (shapeCast S1x256 (multiReduction .add [0] S256 l 0x00000000#32 reduces_S8x256_S256 (.inl rfl) rfl) shapeCasts_S256_S1x256))
    (broadcast S1x256 (Scalar.ofBits .f32 0x41253821#32))

/-- The running maximum after the chunks `f 0`, …, `f (n - 1)`. -/
def runM (f : ℕ → ℕ → FVec F S8x256 .f32) (m : FVec F S8x256 .f32) : ℕ → FVec F S8x256 .f32
  | 0 => m
  | n + 1 => chunkM (f n) (runM f m n)

/-- The running sum of exponentials after the chunks `f 0`, …, `f (n - 1)`. -/
def runS (f : ℕ → ℕ → FVec F S8x256 .f32) (m s : FVec F S8x256 .f32) : ℕ → FVec F S8x256 .f32
  | 0 => s
  | n + 1 => chunkS (f n) (runM f m n) (runS f m s n)

/-- The running label logit after the chunks `f 0`, …, `f (n - 1)`. -/
def runL (rel : IVec S8x256 32) (f : ℕ → ℕ → FVec F S8x256 .f32) (l : FVec F S8x256 .f32) : ℕ → FVec F S8x256 .f32
  | 0 => l
  | n + 1 => pick rel (256 * n) (f n) (runL rel f l n) 32

end Cert.KernelIdeal.Body

end
-- ==== Proof.Kit.lean ====
/- What the runs of the body share: its branch conditions, where the outputs are idle, the staging and scratch buffers. -/
module

public import proofs.«01_k».proof.Proof.Gen.KernelIdeal.Skeleton
public import proofs.«01_k».proof.Proof.Gen.KernelIdeal.Frame
public import Idealize.ShloMosaic.Lib.WordCmp
public import Idealize.ShloMosaic.Lib.Ring
public import Idealize.ShloMosaic.Lib.Pipeline.TableIdle
public import Idealize.ShloMosaic.Lib.Tactic

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 0).val) 29#32)) 0#32) = 1#1
/-- It holds at the points before point 29 — decided over the grid. -/
theorem hcond0_1 : ∀ t : Fin cfg0.N, cond0_1 (grid0.coords t) ↔ t.val < 29 :=
  (by decide +kernel : ∀ t : Fin grid0.N, cond0_1 (grid0.coords t) ↔ t.val < 29)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 30 = 29 :=
  (fun t => by
    have ht : t.val < 30 := Nat.lt_of_lt_of_eq t.isLt N_0
    have e0 : (grid0.coords t 0).val = t.val / 1 % 30 := Pipeline.Grid.coords_val t 0 (by decide) rfl
    simp only [cond0_2, k0_cond3, e0]
    word_cmp
   : ∀ t : Fin grid0.N, cond0_2 (grid0.coords t) ↔ t.val % 30 = 29)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x32 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x256 .bf16 := Memref.whole cc0_scratch0
abbrev scM0_1 : Memref sig .tc .vmem S8x256 .f32 := Memref.whole cc0_scratch1
abbrev scM0_2 : Memref sig .tc .vmem S8x256 .f32 := Memref.whole cc0_scratch2
abbrev scM0_3 : Memref sig .tc .vmem S8x256 .f32 := Memref.whole cc0_scratch3
/-- The scratch `arg8` the kernel carries between points, as a view: what it holds is stated through it. -/
abbrev VS0_0 : View sig .tc .vmem S1024x256 .bf16 := scM0_0.view
/-- The scratch `arg9` the kernel carries between points, as a view: what it holds is stated through it. -/
abbrev VS0_1 : View sig .tc .vmem S8x256 .f32 := scM0_1.view
/-- The scratch `arg10` the kernel carries between points, as a view: what it holds is stated through it. -/
abbrev VS0_2 : View sig .tc .vmem S8x256 .f32 := scM0_2.view
/-- The scratch `arg11` the kernel carries between points, as a view: what it holds is stated through it. -/
abbrev VS0_3 : View sig .tc .vmem S8x256 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## Where the outputs are idle, and when they are written back -/

/-- The loss is stored at the last point only. -/
theorem idleAt0_4 : ∀ t : Fin cfg0.N, cfg0.idle 4 (grid0.coords t) = !decide (t.val = 29) :=
  (by decide +kernel : ∀ t : Fin grid0.N, cfg0.idle 4 (grid0.coords t) = !decide (t.val = 29))
/-- The codes are stored at the first point only. -/
theorem idleAt0_5 : ∀ t : Fin cfg0.N, cfg0.idle 5 (grid0.coords t) = !decide (t.val = 0) :=
  (by decide +kernel : ∀ t : Fin grid0.N, cfg0.idle 5 (grid0.coords t) = !decide (t.val = 0))
/-- The scale bytes are stored at the first point only. -/
theorem idleAt0_6 : ∀ t : Fin cfg0.N, cfg0.idle 6 (grid0.coords t) = !decide (t.val = 0) :=
  (by decide +kernel : ∀ t : Fin grid0.N, cfg0.idle 6 (grid0.coords t) = !decide (t.val = 0))
/-- After the first point the codes' buffer is not fresh: it holds what was stored. -/
theorem notFresh0_5 : ∀ t : Fin cfg0.N, t.val ≠ 0 → cfg0.fresh 5 t.val = false :=
  (by decide +kernel : ∀ t : Fin grid0.N, t.val ≠ 0 → cfg0.fresh 5 t.val = false)
/-- After the first point the scale bytes' buffer is not fresh. -/
theorem notFresh0_6 : ∀ t : Fin cfg0.N, t.val ≠ 0 → cfg0.fresh 6 t.val = false :=
  (by decide +kernel : ∀ t : Fin grid0.N, t.val ≠ 0 → cfg0.fresh 6 t.val = false)

end Cert.KernelIdeal.Body

end
-- ==== Proof.Rows.lean ====
/- The rows of a tile that the body loads for each chunk, and the logits it makes of them. -/
module

public import proofs.«01_k».proof.Proof.Tile
public import proofs.«01_k».proof.Proof.Gen.KernelIdeal.Frame
public import proofs.«01_k».proof.Proof.Kit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

/-- Rows `256 k` to `256 k + 255` of a tile's codes. -/
def codeRows (x1 : Vec F S1024x1024 .fp8e4m3) (k : ℕ) : Vec F S256x1024 .fp8e4m3 :=
  View.readAt (Elt F) arg2.view (Rect.unit (s := S1024x1024) ![256 * (k % 4), 0] S256x1024.size (by
    intro a; match a with
    | ⟨0, _⟩ => show 256 * (k % 4) + 256 ≤ 1024; omega
    | ⟨1, _⟩ => show 0 + 1024 ≤ 1024; omega)).toLoadRect (harg2.unread x1)

/-- Rows `256 k` to `256 k + 255` of a tile's scale bytes. -/
def byteRows (x2 : Vec F S1024x32 .i8) (k : ℕ) : Vec F S256x32 .i8 :=
  View.readAt (Elt F) arg3.view (Rect.unit (s := S1024x32) ![256 * (k % 4), 0] S256x32.size (by
    intro a; match a with
    | ⟨0, _⟩ => show 256 * (k % 4) + 256 ≤ 1024; omega
    | ⟨1, _⟩ => show 0 + 32 ≤ 32; omega)).toLoadRect (harg3.unread x2)

/-- A tile's logits as the body makes them from its loads: chunk `n`, rows `8 k` to `8 k + 7`. -/
def loadLogits (x1 : Vec F S1024x1024 .fp8e4m3) (x2 : Vec F S1024x32 .i8) (xt : Vec F S1024x256 .bf16) (n k : ℕ) : FVec F S8x256 .f32 :=
  rows8 (chunkLogits (codeRows arg2 harg2 x1 n) (byteRows arg3 harg3 x2 n) xt) k

end Cert.KernelIdeal.Body

end
-- ==== Proof.Quant.lean ====
/- What the first point does with the inputs, as functions: the scale exponent of each block of 32 inputs, the codes, the
   scale bytes and the widened inputs, and how the last point makes the loss from the running state. -/
module

public import proofs.«01_k».proof.Proof.Gen.KernelIdeal.Skeleton

@[expose] public section

set_option maxRecDepth 16384

noncomputable section

namespace Cert.KernelIdeal.Body

open Cert.KernelIdeal.Gen
open Idealize.ShloMosaic Idealize.SL.Sem

variable {F : FTy → Type} [FloatOps F] [Named F]

/-- The inputs in blocks: block, place in the block, input row. -/
def blocksOf (x : Vec F S256x1024 .bf16) : FVec F S32x32x256 .f32 :=
  shapeCast S32x32x256
    (extf .f32 (transpose S1024x256 [1, 0] (shapeCast S256x1024 x shapeCasts_S256x1024_S256x1024) transposes_S256x1024_p1_0_S1024x256)
      bitsLt_bf16_f32) shapeCasts_S1024x256_S32x32x256

/-- A block's largest magnitude over 448. -/
def blockTop (x : Vec F S256x1024 .bf16) : FVec F S32x256 .f32 :=
  mulf (multiReduction .maximumf [1] S32x256 (absf (blocksOf x)) 0xFF800000#32 reduces_S32x32x256_S32x256 (.inl rfl) rfl)
    (broadcast S32x256 (Scalar.ofBits .f32 0x3B124925#32))

/-- The float whose exponent byte is the given word. -/
def powWord (v : IVec S32x256 32) : FVec F S32x256 .f32 := bitcastToFloat .f32 (shli v (broadcast S32x256 23#32))

/-- One step of the search for the exponent byte: take the bit `n` where the float with it is still at most `t`. -/
def searchStep (t : FVec F S32x256 .f32) (v : IVec S32x256 32) (n : BitVec 32) : IVec S32x256 32 :=
  select (cmpf .oge t (powWord (addi v (broadcast S32x256 n)))) (addi v (broadcast S32x256 n)) v

/-- The exponent byte of `t`, bit by bit. -/
def expByte (t : FVec F S32x256 .f32) : IVec S32x256 32 :=
  searchStep t (searchStep t (searchStep t (searchStep t (searchStep t (searchStep t (searchStep t
    (searchStep t (broadcast S32x256 0#32) 128#32) 64#32) 32#32) 16#32) 8#32) 4#32) 2#32) 1#32

/-- A block's scale exponent: the exponent byte less 126, and zero for a zero, subnormal or infinite `t`. -/
def blockExp (x : Vec F S256x1024 .bf16) : IVec S32x256 32 :=
  select (ori (cmpi .eq (expByte (blockTop x)) (broadcast S32x256 0#32)) (cmpi .eq (expByte (blockTop x)) (broadcast S32x256 255#32)))
    (broadcast S32x256 0#32) (subi (expByte (blockTop x)) (broadcast S32x256 126#32))

/-- The codes, in blocks. -/
def blockCodes (x : Vec F S256x1024 .bf16) : FVec F S32x32x256 .f32 :=
  extf .f32
    (truncf .fp8e4m3
      (minimumf (broadcast S32x32x256 (Scalar.ofBits .f32 0x43E00000#32))
        (maximumf (broadcast S32x32x256 (Scalar.ofBits .f32 0xC3E00000#32))
          (mulf (blocksOf x)
            (broadcastTo S32x32x256
              (shapeCast S32x1x256 (powWord (subi (broadcast S32x256 127#32) (blockExp x))) shapeCasts_S32x256_S32x1x256)
              broadcasts_S32x1x256_S32x32x256))))
      bitsLt_fp8e4m3_f32) bitsLt_fp8e4m3_f32

/-- The codes as written. -/
def codesOf (x : Vec F S256x1024 .bf16) : FVec F S256x1024 .fp8e4m3 :=
  truncf .fp8e4m3
    (transpose S256x1024 [1, 0] (shapeCast S1024x256 (blockCodes x) shapeCasts_S32x32x256_S1024x256) transposes_S1024x256_p1_0_S256x1024)
    bitsLt_fp8e4m3_f32

/-- The scale bytes as written. -/
def bytesOf (x : Vec F S256x1024 .bf16) : IVec S256x32 8 :=
  trunci 8 (transpose S256x32 [1, 0] (addi (blockExp x) (broadcast S32x256 127#32)) transposes_S32x256_p1_0_S256x32) natLt_8_32

/-- The widened inputs, one column per input row. -/
def widened (x : Vec F S256x1024 .bf16) : FVec F S1024x256 .bf16 :=
  shapeCast S1024x256
    (truncf .bf16
      (shapeCast S1024x256
        (mulf (blockCodes x)
          (broadcastTo S32x32x256
            (shapeCast S32x1x256 (powWord (addi (broadcast S32x256 127#32) (blockExp x))) shapeCasts_S32x256_S32x1x256)
            broadcasts_S32x1x256_S32x32x256)) shapeCasts_S32x32x256_S1024x256) bitsLt_bf16_f32) shapeCasts_S1024x256_S1024x256

end Cert.KernelIdeal.Body

end
-- ==== Proof.RunA.lean ====
/- The kernel body run at the first point of the grid. -/
module

public import proofs.«01_k».proof.Proof.Gen.KernelIdeal.Skeleton
public import proofs.«01_k».proof.Proof.Gen.KernelIdeal.Frame
public import proofs.«01_k».proof.Proof.Kit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

set_option maxHeartbeats 1000000 in
/-- The body at the first point: what its stores leave in each buffer they write, as pieces (last first), with the proof that from
    the inputs' buffers at their blocks the body runs to those pieces written; a buffer it does not store into is handed back as it was. -/
noncomputable def runA (c : Dev nD) (i : grid0.Coords) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32) :
    Σ' (L5 : List (View.Piece (Elt F) S256x1024 .fp8e4m3)), Σ' (L6 : List (View.Piece (Elt F) S256x32 .i8)), Σ' (LS0 : List (View.Piece (Elt F) S1024x256 .bf16)), Σ' (LS1 : List (View.Piece (Elt F) S8x256 .f32)), Σ' (LS2 : List (View.Piece (Elt F) S8x256 .f32)), { LS3 : List (View.Piece (Elt F) S8x256 .f32) //
      ∀ (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun xi4 E K => ?run⟩
  case run =>
    simp only [cc0_mxfp8_xent_eq_skeleton]; unfold cc0_mxfp8_xent_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    obtain rfl := harg5.eq_unread hf4
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Body

end
-- ==== Proof.RunAEq.lean ====
/- What the run at the first point leaves, as the functions of Tile and Quant. -/
module

public import proofs.«01_k».proof.Proof.Rows
public import proofs.«01_k».proof.Proof.Quant
public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

variable (c : Dev nD) (i : grid0.Coords) (hc0 : cond0_0 i) (hc1 : cond0_1 i) (hc2 : ¬cond0_2 i)
    (x0 : Vec F S256x1024 .bf16) (x1 : Vec F S1024x1024 .fp8e4m3) (x2 : Vec F S1024x32 .i8) (x3 : Vec F S1x256 .i32)

/-- The codes written. -/
theorem runA_codes : (runA arg1 harg1 arg2 harg2 arg3 harg3 arg4 harg4 arg5 harg5 arg6 harg6 arg7 harg7 arg8 harg8 arg9 harg9 arg10 harg10 arg11 harg11 c i hc0 hc1 hc2 x0 x1 x2 x3 ).1 = [⟨(Rect.unit (s := S256x1024) ![0, 0] S256x1024.size inb_S256x1024_S256x1024_0_0), codesOf (View.readAt (Elt F) arg1.view (Rect.unit (s := S256x1024) ![0, 0] S256x1024.size inb_S256x1024_S256x1024_0_0).toLoadRect (harg1.unread x0))⟩] := by
  sl_kernel_rfl

/-- The scale bytes written. -/
theorem runA_bytes : (runA arg1 harg1 arg2 harg2 arg3 harg3 arg4 harg4 arg5 harg5 arg6 harg6 arg7 harg7 arg8 harg8 arg9 harg9 arg10 harg10 arg11 harg11 c i hc0 hc1 hc2 x0 x1 x2 x3 ).2.1 = [⟨(Rect.unit (s := S256x32) ![0, 0] S256x32.size inb_S256x32_S256x32_0_0), bytesOf (View.readAt (Elt F) arg1.view (Rect.unit (s := S256x1024) ![0, 0] S256x1024.size inb_S256x1024_S256x1024_0_0).toLoadRect (harg1.unread x0))⟩] := by
  sl_kernel_rfl

/-- The widened inputs kept. -/
theorem runA_widened : (runA arg1 harg1 arg2 harg2 arg3 harg3 arg4 harg4 arg5 harg5 arg6 harg6 arg7 harg7 arg8 harg8 arg9 harg9 arg10 harg10 arg11 harg11 c i hc0 hc1 hc2 x0 x1 x2 x3 ).2.2.1 = [⟨(Rect.unit (s := S1024x256) ![0, 0] S1024x256.size inb_S1024x256_S1024x256_0_0), widened (View.readAt (Elt F) arg1.view (Rect.unit (s := S256x1024) ![0, 0] S256x1024.size inb_S256x1024_S256x1024_0_0).toLoadRect (harg1.unread x0))⟩] := by
  sl_kernel_rfl

/-- The running maximum kept. -/
theorem runA_max : (runA arg1 harg1 arg2 harg2 arg3 harg3 arg4 harg4 arg5 harg5 arg6 harg6 arg7 harg7 arg8 harg8 arg9 harg9 arg10 harg10 arg11 harg11 c i hc0 hc1 hc2 x0 x1 x2 x3 ).2.2.2.1 = [⟨(Rect.unit (s := S8x256) ![0, 0] S8x256.size inb_S8x256_S8x256_0_0), (shapeCast S8x256 (runM (loadLogits arg2 harg2 arg3 harg3 x1 x2 (arg8.view.readCov [(⟨(Rect.unit (s := S1024x256) ![0, 0] S1024x256.size inb_S1024x256_S1024x256_0_0), (widened (View.readAt (Elt F) arg1.view (Rect.unit (s := S256x1024) ![0, 0] S256x1024.size inb_S256x1024_S256x1024_0_0).toLoadRect (harg1.unread x0)))⟩ : View.Piece (Elt F) S1024x256 .bf16)] (Rect.unit (s := S1024x256) ![0, 0] S1024x256.size inb_S1024x256_S1024x256_0_0).toLoadRect)) (arg9.view.readCov [(⟨(Rect.unit (s := S8x256) ![0, 0] S8x256.size inb_S8x256_S8x256_0_0), (k0_pay1 k0_pay20)⟩ : View.Piece (Elt F) S8x256 .f32)] (Rect.unit (s := S8x256) ![0, 0] S8x256.size inb_S8x256_S8x256_0_0).toLoadRect) 4) shapeCasts_S8x256_S8x256)⟩, ⟨(Rect.unit (s := S8x256) ![0, 0] S8x256.size inb_S8x256_S8x256_0_0), (k0_pay1 k0_pay20)⟩] := by
  sl_kernel_rfl

/-- The running sum kept. -/
theorem runA_sum : (runA arg1 harg1 arg2 harg2 arg3 harg3 arg4 harg4 arg5 harg5 arg6 harg6 arg7 harg7 arg8 harg8 arg9 harg9 arg10 harg10 arg11 harg11 c i hc0 hc1 hc2 x0 x1 x2 x3 ).2.2.2.2.1 = [⟨(Rect.unit (s := S8x256) ![0, 0] S8x256.size inb_S8x256_S8x256_0_0), (shapeCast S8x256 (runS (loadLogits arg2 harg2 arg3 harg3 x1 x2 (arg8.view.readCov [(⟨(Rect.unit (s := S1024x256) ![0, 0] S1024x256.size inb_S1024x256_S1024x256_0_0), (widened (View.readAt (Elt F) arg1.view (Rect.unit (s := S256x1024) ![0, 0] S256x1024.size inb_S256x1024_S256x1024_0_0).toLoadRect (harg1.unread x0)))⟩ : View.Piece (Elt F) S1024x256 .bf16)] (Rect.unit (s := S1024x256) ![0, 0] S1024x256.size inb_S1024x256_S1024x256_0_0).toLoadRect)) (arg9.view.readCov [(⟨(Rect.unit (s := S8x256) ![0, 0] S8x256.size inb_S8x256_S8x256_0_0), (k0_pay1 k0_pay20)⟩ : View.Piece (Elt F) S8x256 .f32)] (Rect.unit (s := S8x256) ![0, 0] S8x256.size inb_S8x256_S8x256_0_0).toLoadRect) (arg10.view.readCov [(⟨(Rect.unit (s := S8x256) ![0, 0] S8x256.size inb_S8x256_S8x256_0_0), k0_pay2⟩ : View.Piece (Elt F) S8x256 .f32)] (Rect.unit (s := S8x256) ![0, 0] S8x256.size inb_S8x256_S8x256_0_0).toLoadRect) 4) shapeCasts_S8x256_S8x256)⟩, ⟨(Rect.unit (s := S8x256) ![0, 0] S8x256.size inb_S8x256_S8x256_0_0), k0_pay2⟩] := by
  sl_kernel_rfl

/-- The running label logit kept. -/
theorem runA_label : (runA arg1 harg1 arg2 harg2 arg3 harg3 arg4 harg4 arg5 harg5 arg6 harg6 arg7 harg7 arg8 harg8 arg9 harg9 arg10 harg10 arg11 harg11 c i hc0 hc1 hc2 x0 x1 x2 x3 ).2.2.2.2.2.1 = [⟨(Rect.unit (s := S8x256) ![0, 0] S8x256.size inb_S8x256_S8x256_0_0), (shapeCast S8x256 (runL (labelRel (BitVec.ofNat 32 (i 0).val) (View.readAt (Elt F) arg4.view (Rect.unit (s := S1x256) ![0, 0] S1x256.size inb_S1x256_S1x256_0_0).toLoadRect (harg4.unread x3))) (loadLogits arg2 harg2 arg3 harg3 x1 x2 (arg8.view.readCov [(⟨(Rect.unit (s := S1024x256) ![0, 0] S1024x256.size inb_S1024x256_S1024x256_0_0), (widened (View.readAt (Elt F) arg1.view (Rect.unit (s := S256x1024) ![0, 0] S256x1024.size inb_S256x1024_S256x1024_0_0).toLoadRect (harg1.unread x0)))⟩ : View.Piece (Elt F) S1024x256 .bf16)] (Rect.unit (s := S1024x256) ![0, 0] S1024x256.size inb_S1024x256_S1024x256_0_0).toLoadRect)) (arg11.view.readCov [(⟨(Rect.unit (s := S8x256) ![0, 0] S8x256.size inb_S8x256_S8x256_0_0), k0_pay3⟩ : View.Piece (Elt F) S8x256 .f32)] (Rect.unit (s := S8x256) ![0, 0] S8x256.size inb_S8x256_S8x256_0_0).toLoadRect) 4) shapeCasts_S8x256_S8x256)⟩, ⟨(Rect.unit (s := S8x256) ![0, 0] S8x256.size inb_S8x256_S8x256_0_0), k0_pay3⟩] := by
  sl_kernel_rfl

end Cert.KernelIdeal.Body

end
-- ==== Proof.RunB.lean ====
/- The kernel body run at a point between the first and the last of the grid. -/
module

public import proofs.«01_k».proof.Proof.Gen.KernelIdeal.Skeleton
public import proofs.«01_k».proof.Proof.Gen.KernelIdeal.Frame
public import proofs.«01_k».proof.Proof.Kit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

set_option maxHeartbeats 1000000 in
/-- The body at a point between the first and the last: what its stores leave in each buffer they write, as pieces (last first), with the proof that from
    the inputs' buffers at their blocks the body runs to those pieces written; a buffer it does not store into is handed back as it was. -/
noncomputable def runB (c : Dev nD) (i : grid0.Coords) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) :
    Σ' (LS0 : List (View.Piece (Elt F) S1024x256 .bf16)), Σ' (LS1 : List (View.Piece (Elt F) S8x256 .f32)), Σ' (LS2 : List (View.Piece (Elt F) S8x256 .f32)), { LS3 : List (View.Piece (Elt F) S8x256 .f32) //
      ∀ (xi4 : Vec F S1x256 .f32) (xi5 : Vec F S256x1024 .fp8e4m3) (xi6 : Vec F S256x32 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xi6 ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨[], ?_, ?_, ?_, fun xi4 xi5 xi6 E K => ?run⟩
  case run =>
    simp only [cc0_mxfp8_xent_eq_skeleton]; unfold cc0_mxfp8_xent_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1; obtain rfl := harg10.eq_unread hfs2; obtain rfl := harg11.eq_unread hfs3
    obtain rfl := harg5.eq_unread hf4
    obtain rfl := harg6.eq_unread hf5
    obtain rfl := harg7.eq_unread hf6
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Body

end
-- ==== Proof.RunBEq.lean ====
/- What the run at a point between the first and the last leaves, as the functions of Tile and Quant. -/
module

public import proofs.«01_k».proof.Proof.Rows
public import proofs.«01_k».proof.Proof.Quant
public import proofs.«01_k».proof.Proof.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

variable (c : Dev nD) (i : grid0.Coords) (hc0 : ¬cond0_0 i) (hc1 : cond0_1 i) (hc2 : ¬cond0_2 i)
    (x0 : Vec F S256x1024 .bf16) (x1 : Vec F S1024x1024 .fp8e4m3) (x2 : Vec F S1024x32 .i8) (x3 : Vec F S1x256 .i32)
    (xs0 : Vec F S1024x256 .bf16) (xs1 xs2 xs3 : Vec F S8x256 .f32)

/-- The running maximum kept. -/
theorem runB_max : (runB arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).2.1 = [⟨(Rect.unit (s := S8x256) ![0, 0] S8x256.size inb_S8x256_S8x256_0_0), (shapeCast S8x256 (runM (loadLogits arg2 harg2 arg3 harg3 x1 x2 (View.readAt (Elt F) arg8.view (Rect.unit (s := S1024x256) ![0, 0] S1024x256.size inb_S1024x256_S1024x256_0_0).toLoadRect (harg8.unread xs0))) (View.readAt (Elt F) arg9.view (Rect.unit (s := S8x256) ![0, 0] S8x256.size inb_S8x256_S8x256_0_0).toLoadRect (harg9.unread xs1)) 4) shapeCasts_S8x256_S8x256)⟩] := by
  sl_kernel_rfl

/-- The running sum kept. -/
theorem runB_sum : (runB arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).2.2.1 = [⟨(Rect.unit (s := S8x256) ![0, 0] S8x256.size inb_S8x256_S8x256_0_0), (shapeCast S8x256 (runS (loadLogits arg2 harg2 arg3 harg3 x1 x2 (View.readAt (Elt F) arg8.view (Rect.unit (s := S1024x256) ![0, 0] S1024x256.size inb_S1024x256_S1024x256_0_0).toLoadRect (harg8.unread xs0))) (View.readAt (Elt F) arg9.view (Rect.unit (s := S8x256) ![0, 0] S8x256.size inb_S8x256_S8x256_0_0).toLoadRect (harg9.unread xs1)) (View.readAt (Elt F) arg10.view (Rect.unit (s := S8x256) ![0, 0] S8x256.size inb_S8x256_S8x256_0_0).toLoadRect (harg10.unread xs2)) 4) shapeCasts_S8x256_S8x256)⟩] := by
  sl_kernel_rfl

/-- The running label logit kept. -/
theorem runB_label : (runB arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).2.2.2.1 = [⟨(Rect.unit (s := S8x256) ![0, 0] S8x256.size inb_S8x256_S8x256_0_0), (shapeCast S8x256 (runL (labelRel (BitVec.ofNat 32 (i 0).val) (View.readAt (Elt F) arg4.view (Rect.unit (s := S1x256) ![0, 0] S1x256.size inb_S1x256_S1x256_0_0).toLoadRect (harg4.unread x3))) (loadLogits arg2 harg2 arg3 harg3 x1 x2 (View.readAt (Elt F) arg8.view (Rect.unit (s := S1024x256) ![0, 0] S1024x256.size inb_S1024x256_S1024x256_0_0).toLoadRect (harg8.unread xs0))) (View.readAt (Elt F) arg11.view (Rect.unit (s := S8x256) ![0, 0] S8x256.size inb_S8x256_S8x256_0_0).toLoadRect (harg11.unread xs3)) 4) shapeCasts_S8x256_S8x256)⟩] := by
  sl_kernel_rfl

end Cert.KernelIdeal.Body

end
-- ==== Proof.RunC.lean ====
/- The kernel body run at the last point of the grid. -/
module

public import proofs.«01_k».proof.Proof.Gen.KernelIdeal.Skeleton
public import proofs.«01_k».proof.Proof.Gen.KernelIdeal.Frame
public import proofs.«01_k».proof.Proof.Kit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

set_option maxHeartbeats 1000000 in
/-- The body at the last point: what its stores leave in each buffer they write, as pieces (last first), with the proof that from
    the inputs' buffers at their blocks the body runs to those pieces written; a buffer it does not store into is handed back as it was. -/
noncomputable def runC (c : Dev nD) (i : grid0.Coords) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32) (xs0 : Vec F S1024x256 .bf16) (xs1 : Vec F S8x256 .f32) (xs2 : Vec F S8x256 .f32) (xs3 : Vec F S8x256 .f32) :
    Σ' (L4 : List (View.Piece (Elt F) S1x256 .f32)), Σ' (LS0 : List (View.Piece (Elt F) S1024x256 .bf16)), Σ' (LS1 : List (View.Piece (Elt F) S8x256 .f32)), Σ' (LS2 : List (View.Piece (Elt F) S8x256 .f32)), { LS3 : List (View.Piece (Elt F) S8x256 .f32) //
      ∀ (xi5 : Vec F S256x1024 .fp8e4m3) (xi6 : Vec F S256x32 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0_mxfp8_xent i arg1 harg1 arg2 harg2 arg3 harg3 arg4 harg4 arg5 harg5 arg6 harg6 arg7 harg7 arg8 harg8 arg9 harg9 arg10 harg10 arg11 harg11) K } := by
  refine ⟨?_, [], ?_, ?_, ?_, fun xi5 xi6 E K => ?run⟩
  case run =>
    simp only [cc0_mxfp8_xent_eq_skeleton]; unfold cc0_mxfp8_xent_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1; obtain rfl := harg10.eq_unread hfs2; obtain rfl := harg11.eq_unread hfs3
    obtain rfl := harg6.eq_unread hf5
    obtain rfl := harg7.eq_unread hf6
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Body

end
-- ==== Proof.RunCEq.lean ====
/- What the run at the last point leaves, as the functions of Tile and Quant. -/
module

public import proofs.«01_k».proof.Proof.Rows
public import proofs.«01_k».proof.Proof.Quant
public import proofs.«01_k».proof.Proof.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

variable (c : Dev nD) (i : grid0.Coords) (hc0 : ¬cond0_0 i) (hc1 : ¬cond0_1 i) (hc2 : cond0_2 i)
    (x0 : Vec F S256x1024 .bf16) (x1 : Vec F S1024x1024 .fp8e4m3) (x2 : Vec F S1024x32 .i8) (x3 : Vec F S1x256 .i32)
    (xs0 : Vec F S1024x256 .bf16) (xs1 xs2 xs3 : Vec F S8x256 .f32)

/-- The loss written. -/
theorem runC_loss : (runC arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).1 = [⟨(Rect.unit (s := S1x256) ![0, 0] S1x256.size inb_S1x256_S1x256_0_0), endLoss (arg9.view.readCov [(⟨(Rect.unit (s := S8x256) ![0, 0] S8x256.size inb_S8x256_S8x256_0_0), (shapeCast S8x256 (runM (fun n => masked (rowBase (BitVec.ofNat 32 (i 0).val)) (256 * n) ((loadLogits arg2 harg2 arg3 harg3 x1 x2 (View.readAt (Elt F) arg8.view (Rect.unit (s := S1024x256) ![0, 0] S1024x256.size inb_S1024x256_S1024x256_0_0).toLoadRect (harg8.unread xs0))) n)) (View.readAt (Elt F) arg9.view (Rect.unit (s := S8x256) ![0, 0] S8x256.size inb_S8x256_S8x256_0_0).toLoadRect (harg9.unread xs1)) 4) shapeCasts_S8x256_S8x256)⟩ : View.Piece (Elt F) S8x256 .f32)] (Rect.unit (s := S8x256) ![0, 0] S8x256.size inb_S8x256_S8x256_0_0).toLoadRect) (arg10.view.readCov [(⟨(Rect.unit (s := S8x256) ![0, 0] S8x256.size inb_S8x256_S8x256_0_0), (shapeCast S8x256 (runS (fun n => masked (rowBase (BitVec.ofNat 32 (i 0).val)) (256 * n) ((loadLogits arg2 harg2 arg3 harg3 x1 x2 (View.readAt (Elt F) arg8.view (Rect.unit (s := S1024x256) ![0, 0] S1024x256.size inb_S1024x256_S1024x256_0_0).toLoadRect (harg8.unread xs0))) n)) (View.readAt (Elt F) arg9.view (Rect.unit (s := S8x256) ![0, 0] S8x256.size inb_S8x256_S8x256_0_0).toLoadRect (harg9.unread xs1)) (View.readAt (Elt F) arg10.view (Rect.unit (s := S8x256) ![0, 0] S8x256.size inb_S8x256_S8x256_0_0).toLoadRect (harg10.unread xs2)) 4) shapeCasts_S8x256_S8x256)⟩ : View.Piece (Elt F) S8x256 .f32)] (Rect.unit (s := S8x256) ![0, 0] S8x256.size inb_S8x256_S8x256_0_0).toLoadRect) (arg11.view.readCov [(⟨(Rect.unit (s := S8x256) ![0, 0] S8x256.size inb_S8x256_S8x256_0_0), (shapeCast S8x256 (runL (labelRel (BitVec.ofNat 32 (i 0).val) (View.readAt (Elt F) arg4.view (Rect.unit (s := S1x256) ![0, 0] S1x256.size inb_S1x256_S1x256_0_0).toLoadRect (harg4.unread x3))) (fun n => masked (rowBase (BitVec.ofNat 32 (i 0).val)) (256 * n) ((loadLogits arg2 harg2 arg3 harg3 x1 x2 (View.readAt (Elt F) arg8.view (Rect.unit (s := S1024x256) ![0, 0] S1024x256.size inb_S1024x256_S1024x256_0_0).toLoadRect (harg8.unread xs0))) n)) (View.readAt (Elt F) arg11.view (Rect.unit (s := S8x256) ![0, 0] S8x256.size inb_S8x256_S8x256_0_0).toLoadRect (harg11.unread xs3)) 4) shapeCasts_S8x256_S8x256)⟩ : View.Piece (Elt F) S8x256 .f32)] (Rect.unit (s := S8x256) ![0, 0] S8x256.size inb_S8x256_S8x256_0_0).toLoadRect)⟩] := by
  sl_kernel_rfl

/-- The running maximum kept. -/
theorem runC_max : (runC arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).2.2.1 = [⟨(Rect.unit (s := S8x256) ![0, 0] S8x256.size inb_S8x256_S8x256_0_0), (shapeCast S8x256 (runM (fun n => masked (rowBase (BitVec.ofNat 32 (i 0).val)) (256 * n) ((loadLogits arg2 harg2 arg3 harg3 x1 x2 (View.readAt (Elt F) arg8.view (Rect.unit (s := S1024x256) ![0, 0] S1024x256.size inb_S1024x256_S1024x256_0_0).toLoadRect (harg8.unread xs0))) n)) (View.readAt (Elt F) arg9.view (Rect.unit (s := S8x256) ![0, 0] S8x256.size inb_S8x256_S8x256_0_0).toLoadRect (harg9.unread xs1)) 4) shapeCasts_S8x256_S8x256)⟩] := by
  sl_kernel_rfl

/-- The running sum kept. -/
theorem runC_sum : (runC arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).2.2.2.1 = [⟨(Rect.unit (s := S8x256) ![0, 0] S8x256.size inb_S8x256_S8x256_0_0), (shapeCast S8x256 (runS (fun n => masked (rowBase (BitVec.ofNat 32 (i 0).val)) (256 * n) ((loadLogits arg2 harg2 arg3 harg3 x1 x2 (View.readAt (Elt F) arg8.view (Rect.unit (s := S1024x256) ![0, 0] S1024x256.size inb_S1024x256_S1024x256_0_0).toLoadRect (harg8.unread xs0))) n)) (View.readAt (Elt F) arg9.view (Rect.unit (s := S8x256) ![0, 0] S8x256.size inb_S8x256_S8x256_0_0).toLoadRect (harg9.unread xs1)) (View.readAt (Elt F) arg10.view (Rect.unit (s := S8x256) ![0, 0] S8x256.size inb_S8x256_S8x256_0_0).toLoadRect (harg10.unread xs2)) 4) shapeCasts_S8x256_S8x256)⟩] := by
  sl_kernel_rfl

/-- The running label logit kept. -/
theorem runC_label : (runC arg1 harg1 arg2 harg2 arg3 harg3 arg4 harg4 arg5 harg5 arg6 harg6 arg7 harg7 arg8 harg8 arg9 harg9 arg10 harg10 arg11 harg11 c i hc0 hc1 hc2 x0 x1 x2 x3 xs0 xs1 xs2 xs3).2.2.2.2.1 = [⟨(Rect.unit (s := S8x256) ![0, 0] S8x256.size inb_S8x256_S8x256_0_0), (shapeCast S8x256 (runL (labelRel (BitVec.ofNat 32 (i 0).val) (View.readAt (Elt F) arg4.view (Rect.unit (s := S1x256) ![0, 0] S1x256.size inb_S1x256_S1x256_0_0).toLoadRect (harg4.unread x3))) (fun n => masked (rowBase (BitVec.ofNat 32 (i 0).val)) (256 * n) ((loadLogits arg2 harg2 arg3 harg3 x1 x2 (View.readAt (Elt F) arg8.view (Rect.unit (s := S1024x256) ![0, 0] S1024x256.size inb_S1024x256_S1024x256_0_0).toLoadRect (harg8.unread xs0))) n)) (View.readAt (Elt F) arg11.view (Rect.unit (s := S8x256) ![0, 0] S8x256.size inb_S8x256_S8x256_0_0).toLoadRect (harg11.unread xs3)) 4) shapeCasts_S8x256_S8x256)⟩] := by
  sl_kernel_rfl

end Cert.KernelIdeal.Body

end
-- ==== Proof.Steps.lean ====
/- The running state of the kernel as a function of the blocks, and each run as a step of it. -/
module

public import proofs.«01_k».proof.Proof.RunAEq
public import proofs.«01_k».proof.Proof.RunBEq
public import proofs.«01_k».proof.Proof.RunCEq
public import Idealize.ShloMosaic.Lib.Pipeline.Value
public import Idealize.ShloMosaic.Lib.WholeRead

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg1 : Memref sig .tc .vmem S256x1024 .bf16) (harg1 : arg1.IsWhole)
  (arg2 : Memref sig .tc .vmem S1024x1024 .fp8e4m3) (harg2 : arg2.IsWhole)
  (arg3 : Memref sig .tc .vmem S1024x32 .i8) (harg3 : arg3.IsWhole)
  (arg4 : Memref sig .tc .vmem S1x256 .i32) (harg4 : arg4.IsWhole)
  (arg5 : Memref sig .tc .vmem S1x256 .f32) (harg5 : arg5.IsWhole)
  (arg6 : Memref sig .tc .vmem S256x1024 .fp8e4m3) (harg6 : arg6.IsWhole)
  (arg7 : Memref sig .tc .vmem S256x32 .i8) (harg7 : arg7.IsWhole)
  (arg8 : Memref sig .tc .vmem S1024x256 .bf16) (harg8 : arg8.IsWhole)
  (arg9 : Memref sig .tc .vmem S8x256 .f32) (harg9 : arg9.IsWhole)
  (arg10 : Memref sig .tc .vmem S8x256 .f32) (harg10 : arg10.IsWhole)
  (arg11 : Memref sig .tc .vmem S8x256 .f32) (harg11 : arg11.IsWhole)

omit [FloatOps F] [Named F] in
theorem lit_zero : (![0, 0] : Fin 2 → ℕ) = fun _ => 0 := by funext a; match a with | ⟨0, _⟩ => rfl | ⟨1, _⟩ => rfl

/-! ## The state -/

/-- Rows `256 k` to `256 k + 255` of a tile's codes. -/
def tileCodes (x1 : Vec F S1024x1024 .fp8e4m3) (k : ℕ) : Vec F S256x1024 .fp8e4m3 :=
  fun j => x1 ((Rect.unit (s := S1024x1024) ![256 * (k % 4), 0] S256x1024.size (by
    intro a; match a with
    | ⟨0, _⟩ => show 256 * (k % 4) + 256 ≤ 1024; omega
    | ⟨1, _⟩ => show 0 + 1024 ≤ 1024; omega)).toLoadRect.idx j)

/-- Rows `256 k` to `256 k + 255` of a tile's scale bytes. -/
def tileBytes (x2 : Vec F S1024x32 .i8) (k : ℕ) : Vec F S256x32 .i8 :=
  fun j => x2 ((Rect.unit (s := S1024x32) ![256 * (k % 4), 0] S256x32.size (by
    intro a; match a with
    | ⟨0, _⟩ => show 256 * (k % 4) + 256 ≤ 1024; omega
    | ⟨1, _⟩ => show 0 + 32 ≤ 32; omega)).toLoadRect.idx j)

/-- A tile's logits: chunk `n`, rows `8 k` to `8 k + 7` of it. -/
def tileLogits (x1 : Vec F S1024x1024 .fp8e4m3) (x2 : Vec F S1024x32 .i8) (xt : Vec F S1024x256 .bf16) (n k : ℕ) : FVec F S8x256 .f32 :=
  rows8 (chunkLogits (tileCodes x1 n) (tileBytes x2 n) xt) k

theorem codeRows_eq (x1 : Vec F S1024x1024 .fp8e4m3) (k : ℕ) : codeRows arg2 harg2 x1 k = tileCodes x1 k :=
  by unfold codeRows tileCodes; funext j; exact harg2.readAt_unread x1 _ _

theorem byteRows_eq (x2 : Vec F S1024x32 .i8) (k : ℕ) : byteRows arg3 harg3 x2 k = tileBytes x2 k :=
  by unfold byteRows tileBytes; funext j; exact harg3.readAt_unread x2 _ _

theorem loadLogits_eq (x1 : Vec F S1024x1024 .fp8e4m3) (x2 : Vec F S1024x32 .i8) (xt : Vec F S1024x256 .bf16) :
    loadLogits arg2 harg2 arg3 harg3 x1 x2 xt = tileLogits x1 x2 xt := by
  funext n k; unfold loadLogits tileLogits; rw [codeRows_eq, byteRows_eq]

/-- What the kernel carries from point to point: the widened inputs, the running maximum, sum and label logit. -/
structure State (F : FTy → Type) where
  wide : Vec F S1024x256 .bf16
  top : Vec F S8x256 .f32
  sum : Vec F S8x256 .f32
  lab : Vec F S8x256 .f32

/-- The state from which the first tile starts. -/
def fresh (x0 : Vec F S256x1024 .bf16) : State F where
  wide := widened x0
  top := broadcast S8x256 (Named.named κ "mask" 0xF149F2CA#32)
  sum := broadcast S8x256 (Scalar.ofBits .f32 0x00000000#32)
  lab := broadcast S8x256 (Scalar.ofBits .f32 0x00000000#32)

/-- The state after a tile with the logits `f`. -/
def advance (v : BitVec 32) (x3 : Vec F S1x256 .i32) (f : ℕ → ℕ → FVec F S8x256 .f32) (st : State F) : State F where
  wide := st.wide
  top := runM f st.top 4
  sum := runS f st.top st.sum 4
  lab := runL (labelRel v x3) f st.lab 4

/-- The state after a tile that lies inside the vocabulary. -/
def tileStep (v : BitVec 32) (x1 : Vec F S1024x1024 .fp8e4m3) (x2 : Vec F S1024x32 .i8) (x3 : Vec F S1x256 .i32) (st : State F) : State F :=
  advance v x3 (tileLogits x1 x2 st.wide) st

/-- The state after the last tile, whose rows past the vocabulary are masked. -/
def lastStep (v : BitVec 32) (x1 : Vec F S1024x1024 .fp8e4m3) (x2 : Vec F S1024x32 .i8) (x3 : Vec F S1x256 .i32) (st : State F) : State F :=
  advance v x3 (fun n => masked (rowBase v) (256 * n) (tileLogits x1 x2 st.wide n)) st

/-- The loss that a state gives. -/
def lossOf (st : State F) : Vec F S1x256 .f32 := endLoss st.top st.sum st.lab

/-! ## A whole buffer read, and read back after a store -/

theorem read_top {sig' : RefSig} {κ' : Kind} {sp : Space} {S : Shape} {e : EltTy} (v : View sig' κ' sp S e) {off : Fin S.rank → ℕ} (h : off = fun _ => 0)
    (inb : ∀ a, off a + S.size a ≤ S.size a) (w : S.Idx → Elt F e) (L : List (View.Piece (Elt F) S e)) (f) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h]

theorem readAt_whole {sp : Space} {S : Shape} {e : EltTy} {a : Memref sig .tc sp S e} (ha : a.IsWhole) {off : Fin S.rank → ℕ} (h : off = fun _ => 0)
    (inb : ∀ a, off a + S.size a ≤ S.size a) (X : S.Idx → Elt F e) :
    View.readAt (Elt F) a.view (Rect.unit off S.size inb).toLoadRect (ha.unread X) = X := by
  funext j
  rw [ha.readAt_unread X]
  exact congrFun (View.ld_unit_zero h inb X) j

section
variable (c : Dev nD) (i : grid0.Coords) (hc0 : cond0_0 i) (hc1 : cond0_1 i) (hc2 : ¬cond0_2 i)
  (x0 : Vec F S256x1024 .bf16) (x1 : Vec F S1024x1024 .fp8e4m3) (x2 : Vec F S1024x32 .i8) (x3 : Vec F S1x256 .i32) (st : State F)

theorem readA_codes (f) : arg6.view.read (Elt F) (arg6.view.writes (Elt F) f (runA arg1 harg1 arg2 harg2 arg3 harg3 arg4 harg4 arg5 harg5 arg6 harg6 arg7 harg7 arg8 harg8 arg9 harg9 arg10 harg10 arg11 harg11 c i hc0 hc1 hc2 x0 x1 x2 x3).1) = codesOf x0 := by
  rw [runA_codes, read_top arg6.view lit_zero]
  rw [readAt_whole harg1 lit_zero inb_S256x1024_S256x1024_0_0 x0]
  try rfl

theorem readA_bytes (f) : arg7.view.read (Elt F) (arg7.view.writes (Elt F) f (runA arg1 harg1 arg2 harg2 arg3 harg3 arg4 harg4 arg5 harg5 arg6 harg6 arg7 harg7 arg8 harg8 arg9 harg9 arg10 harg10 arg11 harg11 c i hc0 hc1 hc2 x0 x1 x2 x3).2.1) = bytesOf x0 := by
  rw [runA_bytes, read_top arg7.view lit_zero]
  rw [readAt_whole harg1 lit_zero inb_S256x1024_S256x1024_0_0 x0]
  try rfl

theorem readA_widened (f) : arg8.view.read (Elt F) (arg8.view.writes (Elt F) f (runA arg1 harg1 arg2 harg2 arg3 harg3 arg4 harg4 arg5 harg5 arg6 harg6 arg7 harg7 arg8 harg8 arg9 harg9 arg10 harg10 arg11 harg11 c i hc0 hc1 hc2 x0 x1 x2 x3).2.2.1) = (tileStep (BitVec.ofNat 32 (i 0).val) x1 x2 x3 (fresh x0)).wide := by
  rw [runA_widened, read_top arg8.view lit_zero]
  rw [readAt_whole harg1 lit_zero inb_S256x1024_S256x1024_0_0 x0]
  try rfl

theorem readA_max (f) : arg9.view.read (Elt F) (arg9.view.writes (Elt F) f (runA arg1 harg1 arg2 harg2 arg3 harg3 arg4 harg4 arg5 harg5 arg6 harg6 arg7 harg7 arg8 harg8 arg9 harg9 arg10 harg10 arg11 harg11 c i hc0 hc1 hc2 x0 x1 x2 x3).2.2.2.1) = (tileStep (BitVec.ofNat 32 (i 0).val) x1 x2 x3 (fresh x0)).top := by
  rw [runA_max, read_top arg9.view lit_zero]
  rw [readAt_whole harg1 lit_zero inb_S256x1024_S256x1024_0_0 x0, View.readCov_unit_zero arg8.view lit_zero inb_S1024x256_S1024x256_0_0, loadLogits_eq, shapeCast_self, View.readCov_unit_zero arg9.view lit_zero inb_S8x256_S8x256_0_0]
  try rfl

theorem readA_sum (f) : arg10.view.read (Elt F) (arg10.view.writes (Elt F) f (runA arg1 harg1 arg2 harg2 arg3 harg3 arg4 harg4 arg5 harg5 arg6 harg6 arg7 harg7 arg8 harg8 arg9 harg9 arg10 harg10 arg11 harg11 c i hc0 hc1 hc2 x0 x1 x2 x3).2.2.2.2.1) = (tileStep (BitVec.ofNat 32 (i 0).val) x1 x2 x3 (fresh x0)).sum := by
  rw [runA_sum, read_top arg10.view lit_zero]
  rw [readAt_whole harg1 lit_zero inb_S256x1024_S256x1024_0_0 x0, View.readCov_unit_zero arg8.view lit_zero inb_S1024x256_S1024x256_0_0, loadLogits_eq, shapeCast_self, View.readCov_unit_zero arg9.view lit_zero inb_S8x256_S8x256_0_0, View.readCov_unit_zero arg10.view lit_zero inb_S8x256_S8x256_0_0]
  try rfl

theorem readA_label (f) : arg11.view.read (Elt F) (arg11.view.writes (Elt F) f (runA arg1 harg1 arg2 harg2 arg3 harg3 arg4 harg4 arg5 harg5 arg6 harg6 arg7 harg7 arg8 harg8 arg9 harg9 arg10 harg10 arg11 harg11 c i hc0 hc1 hc2 x0 x1 x2 x3).2.2.2.2.2.1) = (tileStep (BitVec.ofNat 32 (i 0).val) x1 x2 x3 (fresh x0)).lab := by
  rw [runA_label, read_top arg11.view lit_zero]
  rw [readAt_whole harg1 lit_zero inb_S256x1024_S256x1024_0_0 x0, View.readCov_unit_zero arg8.view lit_zero inb_S1024x256_S1024x256_0_0, loadLogits_eq, shapeCast_self, View.readCov_unit_zero arg11.view lit_zero inb_S8x256_S8x256_0_0, readAt_whole harg4 lit_zero inb_S1x256_S1x256_0_0 x3]
  try rfl

end

section
variable (c : Dev nD) (i : grid0.Coords) (hc0 : ¬cond0_0 i) (hc1 : cond0_1 i) (hc2 : ¬cond0_2 i)
  (x0 : Vec F S256x1024 .bf16) (x1 : Vec F S1024x1024 .fp8e4m3) (x2 : Vec F S1024x32 .i8) (x3 : Vec F S1x256 .i32) (st : State F)

theorem readB_max (f) : arg9.view.read (Elt F) (arg9.view.writes (Elt F) f (runB arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).2.1) = (tileStep (BitVec.ofNat 32 (i 0).val) x1 x2 x3 st).top := by
  rw [runB_max, read_top arg9.view lit_zero]
  rw [readAt_whole harg8 lit_zero inb_S1024x256_S1024x256_0_0 st.wide, loadLogits_eq, shapeCast_self, readAt_whole harg9 lit_zero inb_S8x256_S8x256_0_0 st.top]
  try rfl

theorem readB_sum (f) : arg10.view.read (Elt F) (arg10.view.writes (Elt F) f (runB arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).2.2.1) = (tileStep (BitVec.ofNat 32 (i 0).val) x1 x2 x3 st).sum := by
  rw [runB_sum, read_top arg10.view lit_zero]
  rw [readAt_whole harg8 lit_zero inb_S1024x256_S1024x256_0_0 st.wide, loadLogits_eq, shapeCast_self, readAt_whole harg9 lit_zero inb_S8x256_S8x256_0_0 st.top, readAt_whole harg10 lit_zero inb_S8x256_S8x256_0_0 st.sum]
  try rfl

theorem readB_label (f) : arg11.view.read (Elt F) (arg11.view.writes (Elt F) f (runB arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).2.2.2.1) = (tileStep (BitVec.ofNat 32 (i 0).val) x1 x2 x3 st).lab := by
  rw [runB_label, read_top arg11.view lit_zero]
  rw [readAt_whole harg8 lit_zero inb_S1024x256_S1024x256_0_0 st.wide, loadLogits_eq, shapeCast_self, readAt_whole harg11 lit_zero inb_S8x256_S8x256_0_0 st.lab, readAt_whole harg4 lit_zero inb_S1x256_S1x256_0_0 x3]
  try rfl

end

section
variable (c : Dev nD) (i : grid0.Coords) (hc0 : ¬cond0_0 i) (hc1 : ¬cond0_1 i) (hc2 : cond0_2 i)
  (x0 : Vec F S256x1024 .bf16) (x1 : Vec F S1024x1024 .fp8e4m3) (x2 : Vec F S1024x32 .i8) (x3 : Vec F S1x256 .i32) (st : State F)

theorem readC_loss (f) : arg5.view.read (Elt F) (arg5.view.writes (Elt F) f (runC arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).1) = lossOf (lastStep (BitVec.ofNat 32 (i 0).val) x1 x2 x3 st) := by
  rw [runC_loss, read_top arg5.view lit_zero]
  rw [readAt_whole harg8 lit_zero inb_S1024x256_S1024x256_0_0 st.wide, loadLogits_eq, View.readCov_unit_zero arg9.view lit_zero inb_S8x256_S8x256_0_0, View.readCov_unit_zero arg10.view lit_zero inb_S8x256_S8x256_0_0, View.readCov_unit_zero arg11.view lit_zero inb_S8x256_S8x256_0_0, shapeCast_self, shapeCast_self, shapeCast_self, readAt_whole harg9 lit_zero inb_S8x256_S8x256_0_0 st.top, readAt_whole harg10 lit_zero inb_S8x256_S8x256_0_0 st.sum, readAt_whole harg11 lit_zero inb_S8x256_S8x256_0_0 st.lab, readAt_whole harg4 lit_zero inb_S1x256_S1x256_0_0 x3]
  try rfl

theorem readC_max (f) : arg9.view.read (Elt F) (arg9.view.writes (Elt F) f (runC arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).2.2.1) = (lastStep (BitVec.ofNat 32 (i 0).val) x1 x2 x3 st).top := by
  rw [runC_max, read_top arg9.view lit_zero]
  rw [readAt_whole harg8 lit_zero inb_S1024x256_S1024x256_0_0 st.wide, loadLogits_eq, shapeCast_self, readAt_whole harg9 lit_zero inb_S8x256_S8x256_0_0 st.top]
  try rfl

theorem readC_sum (f) : arg10.view.read (Elt F) (arg10.view.writes (Elt F) f (runC arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).2.2.2.1) = (lastStep (BitVec.ofNat 32 (i 0).val) x1 x2 x3 st).sum := by
  rw [runC_sum, read_top arg10.view lit_zero]
  rw [readAt_whole harg8 lit_zero inb_S1024x256_S1024x256_0_0 st.wide, loadLogits_eq, shapeCast_self, readAt_whole harg9 lit_zero inb_S8x256_S8x256_0_0 st.top, readAt_whole harg10 lit_zero inb_S8x256_S8x256_0_0 st.sum]
  try rfl

theorem readC_label (f) : arg11.view.read (Elt F) (arg11.view.writes (Elt F) f (runC arg1 harg1 arg2 harg2 arg3 harg3 arg4 harg4 arg5 harg5 arg6 harg6 arg7 harg7 arg8 harg8 arg9 harg9 arg10 harg10 arg11 harg11 c i hc0 hc1 hc2 x0 x1 x2 x3 st.wide st.top st.sum st.lab).2.2.2.2.1) = (lastStep (BitVec.ofNat 32 (i 0).val) x1 x2 x3 st).lab := by
  rw [runC_label, read_top arg11.view lit_zero]
  rw [readAt_whole harg8 lit_zero inb_S1024x256_S1024x256_0_0 st.wide, loadLogits_eq, shapeCast_self, readAt_whole harg11 lit_zero inb_S8x256_S8x256_0_0 st.lab, readAt_whole harg4 lit_zero inb_S1x256_S1x256_0_0 x3]
  try rfl

end

end Cert.KernelIdeal.Body

end
-- ==== Proof.KFrame.lean ====
/- The proof data of the kernel: what each buffer and the carried scratch hold point by point, the body at every point, the run. -/
module

public import proofs.«01_k».proof.Proof.Steps
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid's first point. -/
abbrev t₀ : Fin cfg0.N := ⟨0, by have : cfg0.N = 30 := N_0; omega⟩

/-- The inputs' block, the same at every point. -/
abbrev xBlock (c : Dev nD) : Vec F S256x1024 .bf16 := iblk m c 0 t₀

/-- The number of the point as the body reads it. -/
abbrev pointWord (t : Fin cfg0.N) : BitVec 32 := BitVec.ofNat 32 (grid0.coords t 0).val

/-- What the kernel carries after point `n`. -/
def stateAt (c : Dev nD) : (n : ℕ) → n < cfg0.N → State F
  | 0, h => tileStep (pointWord ⟨0, h⟩) (iblk m c 1 ⟨0, h⟩) (iblk m c 2 ⟨0, h⟩) (iblk m c 3 ⟨0, h⟩) (fresh (xBlock m c))
  | n + 1, h =>
    if n + 1 < 29 then
      tileStep (pointWord ⟨n + 1, h⟩) (iblk m c 1 ⟨n + 1, h⟩) (iblk m c 2 ⟨n + 1, h⟩) (iblk m c 3 ⟨n + 1, h⟩) (stateAt c n (Nat.lt_of_succ_lt h))
    else
      lastStep (pointWord ⟨n + 1, h⟩) (iblk m c 1 ⟨n + 1, h⟩) (iblk m c 2 ⟨n + 1, h⟩) (iblk m c 3 ⟨n + 1, h⟩) (stateAt c n (Nat.lt_of_succ_lt h))

theorem stateAt_first (c : Dev nD) (t : Fin cfg0.N) (h : t.val = 0) :
    stateAt m c t.val t.isLt = tileStep (pointWord t) (iblk m c 1 t) (iblk m c 2 t) (iblk m c 3 t) (fresh (iblk m c 0 t)) := by
  obtain ⟨n, hn⟩ := t; cases h; rfl

theorem stateAt_mid (c : Dev nD) (t : Fin cfg0.N) (h : t.val ≠ 0) (h' : t.val < 29) :
    stateAt m c t.val t.isLt
      = tileStep (pointWord t) (iblk m c 1 t) (iblk m c 2 t) (iblk m c 3 t) (stateAt m c (t.val - 1) (Nat.lt_of_le_of_lt (Nat.sub_le _ _) t.isLt)) := by
  obtain ⟨n, hn⟩ := t
  cases n with
  | zero => exact absurd rfl h
  | succ n => exact if_pos h'

theorem stateAt_last (c : Dev nD) (t : Fin cfg0.N) (h : t.val ≠ 0) (h' : ¬t.val < 29) :
    stateAt m c t.val t.isLt
      = lastStep (pointWord t) (iblk m c 1 t) (iblk m c 2 t) (iblk m c 3 t) (stateAt m c (t.val - 1) (Nat.lt_of_le_of_lt (Nat.sub_le _ _) t.isLt)) := by
  obtain ⟨n, hn⟩ := t
  cases n with
  | zero => exact absurd rfl h
  | succ n => exact if_neg h'

/-- The scratch at a state, and the generator register at some state. -/
def holds (c : Dev nD) (st : State F) : sProp 𝕄 :=
  iprop(iprop(owns (c : Thread nD τ) scM0_0 fullShare st.wide ∗ owns (c : Thread nD τ) scM0_1 fullShare st.top ∗ owns (c : Thread nD τ) scM0_2 fullShare st.sum ∗ owns (c : Thread nD τ) scM0_3 fullShare st.lab)
    ∗ (∃ r, prngReg c r))

/-- The invariant before point `n`: the scratch at anything before the first, at what the point before left after it. -/
def PhiS (c : Dev nD) : (n : ℕ) → n ≤ cfg0.N → sProp 𝕄
  | 0, _ => Pipeline.ΦA spec0 c
  | n + 1, hn => holds c (stateAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = holds c (stateAt m c n hn) := rfl

theorem PhiS_pos (c : Dev nD) (n : ℕ) (h : n ≤ cfg0.N) (hz : n ≠ 0) : PhiS m c n h = holds c (stateAt m c (n - 1) (by omega)) := by
  cases n with
  | zero => exact absurd rfl hz
  | succ n => rfl

/-- The proof data: the inputs' buffers at their blocks, the codes and scale bytes of the inputs, the loss of the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossOf (stateAt m c t.val t.isLt)
    | ⟨5, _⟩ => codesOf (xBlock m c)
    | ⟨6, _⟩ => bytesOf (xBlock m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = lossOf (stateAt m c t.val t.isLt) := by dsimp only [dats]
theorem after0_5 (c : Dev nD) (t : Fin cfg0.N) : (dats m 0 c).after 5 t = codesOf (xBlock m c) := by dsimp only [dats]
theorem after0_6 (c : Dev nD) (t : Fin cfg0.N) : (dats m 0 c).after 6 t = bytesOf (xBlock m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the buffer holds what was stored there. -/
theorem before0_5 (c : Dev nD) (t : Fin cfg0.N) (h : t.val ≠ 0) (d) : (dats m 0 c).before 5 t d = codesOf (xBlock m c) := by
  rw [Dat.before_out_traj _ 5 rfl (fun _ _ => rfl) (fun t _ _ _ => by rw [after0_5, after0_5]) t.val t rfl d,
    if_neg (by rw [notFresh0_5 t h]; exact Bool.false_ne_true), after0_5]

/-- After the first point the buffer holds what was stored there. -/
theorem before0_6 (c : Dev nD) (t : Fin cfg0.N) (h : t.val ≠ 0) (d) : (dats m 0 c).before 6 t d = bytesOf (xBlock m c) := by
  rw [Dat.before_out_traj _ 6 rfl (fun _ _ => rfl) (fun t _ _ _ => by rw [after0_6, after0_6]) t.val t rfl d,
    if_neg (by rw [notFresh0_6 t h]; exact Bool.false_ne_true), after0_6]

theorem noFlush (w : Fin 7) (hw : 4 ≤ w.val) : ∀ t : Fin cfg0.N, t.val < 29 → (cfg0.win w).flush t = false := by
  have key : ∀ w : Fin 7, 4 ≤ w.val → ∀ t : Fin cfg0.N, t.val < 29 → (cfg0.win w).flush t = false := by decide +kernel
  exact key w hw

/-- What the obligation hands the body at point `t`: -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 2000000 in
/-- The body at any point: at the first, a middle or the last point the run of that case applies, and leaves the scratch at the
    next state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 30 := lt_of_lt_of_eq t.isLt (show cfg0.N = 30 from N_0)
  rw [leaves_live m c 0 t rfl, leaves_live m c 1 t rfl, leaves_live m c 2 t rfl, leaves_live m c 3 t rfl, after0_0, after0_1, after0_2, after0_3]
  by_cases hz : t.val = 0
  · obtain rfl : t = t₀ := Fin.ext hz
    rw [PhiS_castSucc, PhiS_zero m c _ _ hz, PhiA0_eq, stateAt_first m c _ hz]
    rw [Dat.leavesExact_idle (dats m 0 c) 4 _ (by rw [idleAt0_4]; rfl) (noFlush 4 (by decide) _ (by decide)), leaves_live m c 5 _ (by rw [idleAt0_5]; rfl), leaves_live m c 6 _ (by rw [idleAt0_6]; rfl), after0_5, after0_6]
    unfold holds
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((runA _ _ _ _ _ _ _ _ _ _ _ _ _ _ _ _ _ _ _ _ _ _ c (grid0.coords t₀) ((hcond0_0 t₀).mpr (by decide)) ((hcond0_1 t₀).mpr (by decide)) (fun h => absurd ((hcond0_2 t₀).mp h) (by decide)) (iblk m c 0 t₀) (iblk m c 1 t₀) (iblk m c 2 t₀) (iblk m c 3 t₀)).2.2.2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, ⟨%eH5, H5⟩, ⟨%eH6, H6⟩, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr; swap; · iexact HS0
          ipureintro; exact readA_widened _ _ _ _ _ _ _ _ _ _ _ _ _ _ _ _ _ _ _ _ _ _ _ _ _ _ _ _ _ _ _ _
        isplitl [HS1]
        · unfold owns; iexists _; isplitr; swap; · iexact HS1
          ipureintro; exact readA_max _ _ _ _ _ _ _ _ _ _ _ _ _ _ _ _ _ _ _ _ _ _ _ _ _ _ _ _ _ _ _ _
        isplitl [HS2]
        · unfold owns; iexists _; isplitr; swap; · iexact HS2
          ipureintro; exact readA_sum _ _ _ _ _ _ _ _ _ _ _ _ _ _ _ _ _ _ _ _ _ _ _ _ _ _ _ _ _ _ _ _
        unfold owns; iexists _; isplitr; swap; · iexact HS3
        ipureintro; exact readA_label _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]
    · unfold owns; iexists _; isplitr; swap; · iexact H5
      ipureintro; exact readA_codes _ _ _ _ _ _ _ _ _ _ _ _ _ _ _ _ _ _ _ _ _ _ _ _ _ _ _ _ _ _ _ _
    unfold owns; iexists _; isplitr; swap; · iexact H6
    ipureintro; exact readA_bytes _ _ _ _ _ _ _ _ _ _ _ _ _ _ _ _ _ _ _ _ _ _ _ _ _ _ _ _ _ _ _ _
  by_cases hl : t.val < 29
  · rw [PhiS_castSucc, PhiS_pos m c _ _ hz, stateAt_mid m c t hz hl]
    rw [Dat.leavesExact_idle (dats m 0 c) 4 t (by rw [idleAt0_4]; simp only [Bool.not_eq_true', decide_eq_false_iff_not]; omega) (noFlush 4 (by decide) t hl), Dat.leavesExact_idle (dats m 0 c) 5 t (by rw [idleAt0_5]; simp only [Bool.not_eq_true', decide_eq_false_iff_not]; exact hz) (noFlush 5 (by decide) t hl), Dat.leavesExact_idle (dats m 0 c) 6 t (by rw [idleAt0_6]; simp only [Bool.not_eq_true', decide_eq_false_iff_not]; exact hz) (noFlush 6 (by decide) t hl)]
    unfold holds
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((runB _ _ _ _ _ _ _ _ _ _ _ _ _ _ _ _ _ _ _ _ _ _ c (grid0.coords t) (fun h => by have := (hcond0_0 t).mp h; omega) ((hcond0_1 t).mpr hl) (fun h => by have := (hcond0_2 t).mp h; omega) (iblk m c 0 t) (iblk m c 1 t) (iblk m c 2 t) (iblk m c 3 t) (stateAt m c (t.val - 1) (Nat.lt_of_le_of_lt (Nat.sub_le _ _) t.isLt)).wide (stateAt m c (t.val - 1) (Nat.lt_of_le_of_lt (Nat.sub_le _ _) t.isLt)).top (stateAt m c (t.val - 1) (Nat.lt_of_le_of_lt (Nat.sub_le _ _) t.isLt)).sum (stateAt m c (t.val - 1) (Nat.lt_of_le_of_lt (Nat.sub_le _ _) t.isLt)).lab).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, ⟨%es1, HS1⟩, ⟨%es2, HS2⟩, ⟨%es3, HS3⟩⟩
    isplitl [HS0 HS1 HS2 HS3 Hg]
    · isplitl [HS0 HS1 HS2 HS3]
      · isplitl [HS0]; · iexact HS0
        isplitl [HS1]
        · unfold owns; iexists _; isplitr; swap; · iexact HS1
          ipureintro; exact readB_max _ _ _ _ _ _ _ _ _ _ _ _ _ _ _ _ _ _ _ _ _ _ _ _ _ _ _ _ _ _ _ _ _
        isplitl [HS2]
        · unfold owns; iexists _; isplitr; swap; · iexact HS2
          ipureintro; exact readB_sum _ _ _ _ _ _ _ _ _ _ _ _ _ _ _ _ _ _ _ _ _ _ _ _ _ _ _ _ _ _ _ _ _
        unfold owns; iexists _; isplitr; swap; · iexact HS3
        ipureintro; exact readB_label _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hf : ∀ w : Fin 7, 4 ≤ w.val → (cfg0.win w).flush t = true := by
      have key : ∀ w : Fin 7, 4 ≤ w.val → ∀ t : Fin cfg0.N, t.val = 29 → (cfg0.win w).flush t = true := by decide +kernel
      exact fun w hw => key w hw t (by omega)
    rw [PhiS_castSucc, PhiS_pos m c _ _ hz]
    rw [leaves_live m c 4 t (by rw [idleAt0_4]; simp only [Bool.not_eq_false', decide_eq_true_eq]; omega), leaves_flush m c 5 t (by rw [idleAt0_5]; simp only [Bool.not_eq_true', decide_eq_false_iff_not]; exact hz) (hf 5 (by decide)), leaves_flush m c 6 t (by rw [idleAt0_6]; simp only [Bool.not_eq_true', decide_eq_false_iff_not]; exact hz) (hf 6 (by decide)), after0_4, after0_5, after0_6, stateAt_last m c t hz hl]
    simp only [before0_5 m c t hz, before0_6 m c t hz]
    unfold holds
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((runC _ _ _ _ _ _ _ _ _ _ _ _ _ _ _ _ _ _ _ _ _ _ c (grid0.coords t) (fun h => by have := (hcond0_0 t).mp h; omega) (fun h => hl ((hcond0_1 t).mp h)) ((hcond0_2 t).mpr (by omega)) (iblk m c 0 t) (iblk m c 1 t) (iblk m c 2 t) (iblk m c 3 t) (stateAt m c (t.val - 1) (Nat.lt_of_le_of_lt (Nat.sub_le _ _) t.isLt)).wide (stateAt m c (t.val - 1) (Nat.lt_of_le_of_lt (Nat.sub_le _ _) t.isLt)).top (stateAt m c (t.val - 1) (Nat.lt_of_le_of_lt (Nat.sub_le _ _) t.isLt)).sum (stateAt m c (t.val - 1) (Nat.lt_of_le_of_lt (Nat.sub_le _ _) t.isLt)).lab).2.2.2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, ⟨%eH4, H4⟩, H5, H6, HS0, ⟨%es1, HS1⟩, ⟨%es2, HS2⟩, ⟨%es3, HS3⟩⟩
    isplitl [HS0 HS1 HS2 HS3 Hg]
    · isplitl [HS0 HS1 HS2 HS3]
      · isplitl [HS0]; · iexact HS0
        isplitl [HS1]
        · unfold owns; iexists _; isplitr; swap; · iexact HS1
          ipureintro; exact readC_max _ _ _ _ _ _ _ _ _ _ _ _ _ _ _ _ _ _ _ _ _ _ _ _ _ _ _ _ _ _ _ _ _
        isplitl [HS2]
        · unfold owns; iexists _; isplitr; swap; · iexact HS2
          ipureintro; exact readC_sum _ _ _ _ _ _ _ _ _ _ _ _ _ _ _ _ _ _ _ _ _ _ _ _ _ _ _ _ _ _ _ _ _
        unfold owns; iexists _; isplitr; swap; · iexact HS3
        ipureintro; exact readC_label _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr; swap; · iexact H4
      ipureintro; exact readC_loss _ _ _ _ _ _ _ _ _ _ _ _ _ _ _ _ _ _ _ _ _ _ _ _ _ _ _ _ _ _ _ _ _
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold holds
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The kernel terminates at any float values, changes no argument, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Exponent.lean ====
/- The exponent of a float, found bit by bit against the powers of two, and the same exponent as the rounded-down logarithm. -/
module

public import proofs.«01_k».proof.Proof.Quant
public import Idealize.ShloMosaic.PureOps.Ideal.Laws

@[expose] public section

set_option maxRecDepth 16384

noncomputable section

namespace Cert.Exponent

open Idealize.ShloMosaic

/-- The float whose exponent byte is `n`: zero, a power of two, or infinity. -/
def pow (n : ℕ) : EReal := if n = 0 then 0 else if n = 255 then ⊤ else (((2 : ℝ) ^ ((n : ℤ) - 127) : ℝ) : EReal)

theorem pow_mid {n : ℕ} (h0 : n ≠ 0) (h1 : n ≠ 255) : pow n = (((2 : ℝ) ^ ((n : ℤ) - 127) : ℝ) : EReal) := by
  rw [pow, if_neg h0, if_neg h1]

theorem word_parts : ∀ n : Fin 256, ((BitVec.ofNat 32 n.val <<< (23 : ℕ)).extractLsb' 23 8).toNat = n.val
    ∧ ((BitVec.ofNat 32 n.val <<< (23 : ℕ)).extractLsb' 0 23).toNat = 0
    ∧ ((BitVec.ofNat 32 n.val <<< (23 : ℕ)).extractLsb' 31 1 == 1#1) = false := by decide +kernel

theorem shift_pow (n : ℕ) : (1 * ((2 ^ 23 + 0 : ℕ) : ℝ) * (2 : ℝ) ^ ((n : ℤ) - (2 ^ (8 - 1) - 1) - (23 : ℕ))) = (2 : ℝ) ^ ((n : ℤ) - 127) := by
  have h : (2 : ℝ) ^ ((n : ℤ) - 127) = (2 : ℝ) ^ (23 : ℤ) * (2 : ℝ) ^ ((n : ℤ) - (2 ^ (8 - 1) - 1) - (23 : ℕ)) := by
    rw [← zpow_add₀ (by norm_num)]
    exact congrArg _ (by norm_num)
  rw [h]
  norm_num

theorem ofBits_pow (n : ℕ) (h : n < 256) : Ideal.ofBits .f32 (BitVec.ofNat 32 n <<< (23 : ℕ)) = pow n := by
  obtain ⟨h1, h2, h3⟩ := word_parts ⟨n, h⟩
  have h1 : ((BitVec.ofNat 32 n <<< (23 : ℕ)).extractLsb' 23 8).toNat = n := h1
  have h2 : ((BitVec.ofNat 32 n <<< (23 : ℕ)).extractLsb' 0 23).toNat = 0 := h2
  have h3 : ((BitVec.ofNat 32 n <<< (23 : ℕ)).extractLsb' (8 + 23) 1 == 1#1) = false := h3
  generalize BitVec.ofNat 32 n <<< (23 : ℕ) = w at *
  have e : Ideal.ofBits .f32 w = Ideal.ieee 8 23 w := rfl
  rw [e, Ideal.ieee]
  simp only [h1, h2, h3]
  unfold pow
  by_cases h0 : n = 0
  · subst h0; simp
  by_cases h255 : n = 255
  · subst h255; simp
  rw [if_neg (show ¬ n = 2 ^ 8 - 1 from h255), if_neg h0, if_neg h0, if_neg h255]
  exact congrArg Real.toEReal (shift_pow n)

theorem half_parts : ∀ n : Fin 256, ((BitVec.ofNat 16 n.val <<< (7 : ℕ)).extractLsb' 7 8).toNat = n.val
    ∧ ((BitVec.ofNat 16 n.val <<< (7 : ℕ)).extractLsb' 0 7).toNat = 0
    ∧ ((BitVec.ofNat 16 n.val <<< (7 : ℕ)).extractLsb' 15 1 == 1#1) = false := by decide +kernel

theorem shift_pow_half (n : ℕ) : (1 * ((2 ^ 7 + 0 : ℕ) : ℝ) * (2 : ℝ) ^ ((n : ℤ) - (2 ^ (8 - 1) - 1) - (7 : ℕ))) = (2 : ℝ) ^ ((n : ℤ) - 127) := by
  have h : (2 : ℝ) ^ ((n : ℤ) - 127) = (2 : ℝ) ^ (7 : ℤ) * (2 : ℝ) ^ ((n : ℤ) - (2 ^ (8 - 1) - 1) - (7 : ℕ)) := by
    rw [← zpow_add₀ (by norm_num)]
    exact congrArg _ (by norm_num)
  rw [h]
  norm_num

/-- A bfloat16 word with a byte as its exponent and nothing else is the byte's power. -/
theorem ofBits_pow_half (n : ℕ) (h : n < 256) : Ideal.ofBits .bf16 (BitVec.ofNat 16 n <<< (7 : ℕ)) = pow n := by
  obtain ⟨h1, h2, h3⟩ := half_parts ⟨n, h⟩
  have h1 : ((BitVec.ofNat 16 n <<< (7 : ℕ)).extractLsb' 7 8).toNat = n := h1
  have h2 : ((BitVec.ofNat 16 n <<< (7 : ℕ)).extractLsb' 0 7).toNat = 0 := h2
  have h3 : ((BitVec.ofNat 16 n <<< (7 : ℕ)).extractLsb' (8 + 7) 1 == 1#1) = false := h3
  generalize BitVec.ofNat 16 n <<< (7 : ℕ) = w at *
  have e : Ideal.ofBits .bf16 w = Ideal.ieee 8 7 w := rfl
  rw [e, Ideal.ieee]
  simp only [h1, h2, h3]
  unfold pow
  by_cases h0 : n = 0
  · subst h0; simp
  by_cases h255 : n = 255
  · subst h255; simp
  rw [if_neg (show ¬ n = 2 ^ 8 - 1 from h255), if_neg h0, if_neg h0, if_neg h255]
  exact congrArg Real.toEReal (shift_pow_half n)

theorem pow_mono {a b : ℕ} (h : a ≤ b) (hb : b < 256) : pow a ≤ pow b := by
  unfold pow
  by_cases ha0 : a = 0
  · rw [if_pos ha0]
    split
    · exact le_rfl
    · split
      · exact le_top
      · exact EReal.coe_nonneg.mpr (by positivity)
  by_cases hb255 : b = 255
  · rw [if_neg (by omega : b ≠ 0), if_pos hb255]; exact le_top
  rw [if_neg ha0, if_neg (by omega), if_neg (by omega), if_neg hb255]
  exact EReal.coe_le_coe_iff.mpr (zpow_le_zpow_right₀ (by norm_num) (by omega))

/-- One step of the search on numbers. -/
def stepNat (t : EReal) (v n : ℕ) : ℕ := if pow (v + n) ≤ t then v + n else v

/-- The search on numbers: eight bits, from the top. -/
def search (t : EReal) : ℕ :=
  stepNat t (stepNat t (stepNat t (stepNat t (stepNat t (stepNat t (stepNat t (stepNat t 0 128) 64) 32) 16) 8) 4) 2) 1

/-- What a step keeps: the number found is a multiple of the bit, its power is at most `t`, and the power of the next multiple is above. -/
def Good (t : EReal) (v n : ℕ) : Prop := v + n ≤ 256 ∧ pow v ≤ t ∧ (v + n < 256 → t < pow (v + n))

theorem good_step {t : EReal} {v n : ℕ} (hn : 0 < n) (h : Good t v (2 * n)) : Good t (stepNat t v n) n := by
  obtain ⟨h1, h2, h3⟩ := h
  unfold stepNat
  by_cases hc : pow (v + n) ≤ t
  · rw [if_pos hc]
    exact ⟨by omega, hc, fun hlt => by have := h3 (by omega); rwa [show v + n + n = v + 2 * n by omega]⟩
  · rw [if_neg hc]
    exact ⟨by omega, h2, fun _ => lt_of_not_ge hc⟩

theorem good_search {t : EReal} (ht : 0 ≤ t) : Good t (search t) 1 := by
  have h0 : Good t 0 256 := ⟨le_rfl, by rw [pow, if_pos rfl]; exact ht, fun h => absurd h (by decide)⟩
  exact good_step (by decide) (good_step (by decide) (good_step (by decide) (good_step (by decide) (good_step (by decide)
    (good_step (by decide) (good_step (by decide) (good_step (by decide) h0)))))))

theorem search_lt {t : EReal} (ht : 0 ≤ t) : search t < 256 := by have := (good_search ht).1; omega

/-- The scale exponent from the exponent byte. -/
def expOf (t : EReal) : ℤ := if search t = 0 ∨ search t = 255 then 0 else (search t : ℤ) - 126

/-- The reference's exponent: the rounded-down logarithm to base two plus one, and zero below the smallest normal number. -/
def refExp (t : EReal) : EReal :=
  if t < pow 1 then 0 else Ideal.liftRound Int.floor (Ideal.div (Ideal.log t) (Ideal.log ((2 : ℝ) : EReal))) + 1

/-- Both exponents agree below `2 ^ 127`. -/
theorem refExp_eq {t : EReal} (ht : 0 ≤ t) (hlt : t < pow 254) : refExp t = ((expOf t : ℝ) : EReal) := by
  obtain ⟨h1, h2, h3⟩ := good_search ht
  have hs : search t < 254 := by
    by_contra hc
    exact absurd (le_trans (pow_mono (by omega : 254 ≤ search t) (by omega)) h2) (not_le.mpr hlt)
  have h3 := h3 (by omega)
  unfold refExp expOf
  by_cases h0 : search t = 0
  · rw [if_pos (by rw [h0] at h3; exact h3), if_pos (Or.inl h0)]; simp
  have hge : pow 1 ≤ t := le_trans (pow_mono (by omega) (by omega)) h2
  rw [if_neg (not_lt.mpr hge), if_neg (by omega)]
  rw [pow_mid h0 (by omega)] at h2
  rw [pow_mid (by omega) (by omega)] at h3
  induction t with
  | bot => exact absurd ht (by simp)
  | top => exact absurd h3 (by simp)
  | coe r =>
    have h2 := EReal.coe_le_coe_iff.mp h2
    have h3 := EReal.coe_lt_coe_iff.mp h3
    have hr : 0 < r := lt_of_lt_of_le (by positivity) h2
    rw [Ideal.log_coe, Ideal.log_coe, if_neg (not_le.mpr hr), if_neg (by norm_num), Ideal.div,
      if_neg (by rw [← EReal.coe_zero]; exact fun h => (Real.log_pos (by norm_num : (1 : ℝ) < 2)).ne' (EReal.coe_injective h)),
      ← EReal.coe_inv, ← EReal.coe_mul]
    set n := search (r : EReal) with hn
    have hl2 : 0 < Real.log 2 := Real.log_pos (by norm_num)
    have hfl : ⌊Real.log r * (Real.log 2)⁻¹⌋ = (n : ℤ) - 127 := by
      rw [Int.floor_eq_iff, ← div_eq_mul_inv]
      constructor
      · rw [le_div_iff₀ hl2, ← Real.log_zpow]; exact Real.log_le_log (by positivity) h2
      · rw [div_lt_iff₀ hl2, show (((n : ℤ) - 127 : ℤ) : ℝ) + 1 = ((((n + 1 : ℕ) : ℤ) - 127 : ℤ) : ℝ) by push_cast; ring, ← Real.log_zpow]
        exact Real.log_lt_log hr h3
    show ((⌊Real.log r * (Real.log 2)⁻¹⌋ : ℝ) : EReal) + 1 = _
    rw [hfl, ← EReal.coe_one, ← EReal.coe_add]
    exact congrArg Real.toEReal (by push_cast; ring)

theorem expOf_bounds {t : EReal} (ht : 0 ≤ t) (hlt : t < pow 253) : -125 ≤ expOf t ∧ expOf t ≤ 126 := by
  obtain ⟨h1, h2, -⟩ := good_search ht
  have hs : search t < 253 := by
    by_contra hc
    exact absurd (le_trans (pow_mono (by omega : 253 ≤ search t) (by omega)) h2) (not_le.mpr hlt)
  unfold expOf
  split <;> omega

/-- Two to an integer power, as the float the exponent byte spells. -/
theorem exp2_int (n : ℕ) (h0 : n ≠ 0) (h1 : n ≠ 255) (e : ℤ) (he : e = (n : ℤ) - 127) : Ideal.exp2 ((e : ℝ) : EReal) = pow n := by
  rw [pow_mid h0 h1, Ideal.exp2_coe, ← he]
  congr 1
  exact Real.rpow_intCast 2 e

end Cert.Exponent

end

end
-- ==== Proof.Online.lean ====
/- The sum of exponentials kept against a running maximum, as extended reals. -/
module

public import proofs.«01_k».proof.Proof.Tile
public import Idealize.ShloMosaic.PureOps.Ideal.Laws

@[expose] public section

noncomputable section

namespace Cert.Online

open Idealize.ShloMosaic Cert.KernelIdeal.Body

theorem exp_nonneg (x : EReal) : 0 ≤ Ideal.exp x := by
  induction x with
  | bot => exact le_rfl
  | top => exact le_top
  | coe r => exact EReal.coe_nonneg.mpr (Real.exp_pos r).le

/-- Below a maximum that grows, an exponential taken against the old one is carried to the new one by one factor. -/
theorem exp_sub_mul {g m m' : EReal} (h1 : g ≤ m) (h2 : m ≤ m') :
    Ideal.exp (g - m) * Ideal.exp (m - m') = Ideal.exp (g - m') := by
  induction m' with
  | bot =>
    obtain rfl := le_bot_iff.mp h2
    obtain rfl := le_bot_iff.mp h1
    simp [sub_eq_add_neg]
  | top => simp [sub_eq_add_neg]
  | coe r' =>
    induction m with
    | top => exact absurd (top_le_iff.mp h2) (EReal.coe_ne_top _)
    | bot =>
      obtain rfl := le_bot_iff.mp h1
      simp [sub_eq_add_neg]
    | coe r =>
      induction g with
      | top => exact absurd (top_le_iff.mp h1) (EReal.coe_ne_top _)
      | bot => simp [sub_eq_add_neg]
      | coe x =>
        rw [← EReal.coe_sub, ← EReal.coe_sub, ← EReal.coe_sub, Ideal.exp_coe, Ideal.exp_coe, Ideal.exp_coe, ← EReal.coe_mul, ← Real.exp_add]
        congr 2; ring

/-- The largest of the first `n` values. -/
def top (g : ℕ → EReal) (n : ℕ) : EReal := (Finset.range n).sup g

/-- The first `n` values' exponentials against `m`, summed. -/
def tot (g : ℕ → EReal) (n : ℕ) (m : EReal) : EReal := ∑ q ∈ Finset.range n, Ideal.exp (g q - m)

theorem top_zero (g : ℕ → EReal) : top g 0 = ⊥ := rfl

theorem tot_zero (g : ℕ → EReal) (m : EReal) : tot g 0 m = 0 := rfl

theorem tot_nonneg (g : ℕ → EReal) (n : ℕ) (m : EReal) : 0 ≤ tot g n m := Finset.sum_nonneg fun _ _ => exp_nonneg _

theorem top_succ (g : ℕ → EReal) (n : ℕ) : top g (n + 1) = max (top g n) (g n) := by
  unfold top; rw [Finset.range_add_one, Finset.sup_insert, max_comm]

theorem tot_succ (g : ℕ → EReal) (n : ℕ) (m : EReal) : tot g (n + 1) m = tot g n m + Ideal.exp (g n - m) :=
  Finset.sum_range_succ _ _

theorem top_add (g : ℕ → EReal) (n k : ℕ) : top g (n + k) = max (top g n) (top (fun j => g (n + j)) k) := by
  induction k with
  | zero => rw [Nat.add_zero, top_zero, max_bot_right]
  | succ k ih => rw [← Nat.add_assoc, top_succ, ih, top_succ, max_assoc]

theorem tot_add (g : ℕ → EReal) (n k : ℕ) (m : EReal) : tot g (n + k) m = tot g n m + tot (fun j => g (n + j)) k m := by
  induction k with
  | zero => rw [Nat.add_zero, tot_zero, add_zero]
  | succ k ih => rw [← Nat.add_assoc, tot_succ, ih, tot_succ, add_assoc]

/-- A sum of exponentials is carried to a larger maximum by one factor. -/
theorem tot_mul (g : ℕ → EReal) (n : ℕ) {m m' : EReal} (h1 : top g n ≤ m) (h2 : m ≤ m') :
    tot g n m * Ideal.exp (m - m') = tot g n m' := by
  induction n with
  | zero => rw [tot_zero, tot_zero, zero_mul]
  | succ n ih =>
    rw [top_succ] at h1
    rw [tot_succ, tot_succ, EReal.right_distrib_of_nonneg (tot_nonneg _ _ _) (exp_nonneg _), ih (le_trans (le_max_left _ _) h1),
      exp_sub_mul (le_trans (le_max_right _ _) h1) h2]

theorem tree32_max (h : ℕ → EReal) : tree32 max h = top h 32 := by
  simp only [tree32, pairUp, top_succ, top_zero, max_bot_left, Nat.mul_zero, Nat.zero_add, Nat.reduceMul, Nat.reduceAdd]
  ac_rfl

theorem tree32_add (h : ℕ → EReal) : tree32 (· + ·) h = ∑ q ∈ Finset.range 32, h q := by
  simp only [tree32, pairUp, Finset.sum_range_succ, Finset.sum_range_zero, zero_add, Nat.mul_zero, Nat.reduceMul, Nat.reduceAdd]
  ac_rfl

/-- One step of the running maximum and sum, over thirty-two further values. -/
theorem step (g : ℕ → EReal) (n : ℕ) :
    tot g n (top g n) * Ideal.exp (top g n - top g (n + 32)) + tree32 (· + ·) (fun k => Ideal.exp (g (n + k) - top g (n + 32)))
      = tot g (n + 32) (top g (n + 32)) := by
  rw [tot_mul g n le_rfl (by rw [top_add]; exact le_max_left _ _), tree32_add, tot_add]
  rfl

theorem top_step (g : ℕ → EReal) (n : ℕ) : max (top g n) (tree32 max fun k => g (n + k)) = top g (n + 32) := by
  rw [tree32_max, top_add]

/-- Eight interleaved rows' maxima are all the values' maximum. -/
theorem top_rows (g : ℕ → EReal) (n : ℕ) :
    (top (fun r => top (fun q => g (8 * q + r)) n) 8) = top g (8 * n) := by
  induction n with
  | zero => rfl
  | succ n ih =>
    rw [Nat.mul_succ, top_add, ← ih]
    simp only [top_succ, top_zero, max_bot_left]
    ac_rfl

theorem sum_rows (f : ℕ → EReal) (n : ℕ) :
    ∑ r ∈ Finset.range 8, ∑ q ∈ Finset.range n, f (8 * q + r) = ∑ k ∈ Finset.range (8 * n), f k := by
  induction n with
  | zero => simp
  | succ n ih =>
    rw [Nat.mul_succ, Finset.sum_range_add, ← ih, ← Finset.sum_add_distrib]
    exact Finset.sum_congr rfl fun r _ => Finset.sum_range_succ _ _

/-- The eight rows' sums, carried to the maximum over all of them, are all the values' sum. -/
theorem tot_rows (g : ℕ → EReal) (n : ℕ) (m : EReal) (hm : top g (8 * n) ≤ m) :
    ∑ r ∈ Finset.range 8, tot (fun q => g (8 * q + r)) n (top (fun q => g (8 * q + r)) n)
        * Ideal.exp (top (fun q => g (8 * q + r)) n - m) = tot g (8 * n) m := by
  rw [tot, ← sum_rows (fun k => Ideal.exp (g k - m))]
  refine Finset.sum_congr rfl fun r hr => ?_
  refine tot_mul _ _ le_rfl (le_trans ?_ hm)
  rw [← top_rows]
  exact Finset.le_sup (f := fun r => top (fun q => g (8 * q + r)) n) hr

/-- Values masked to minus infinity add nothing. -/
theorem top_masked (g : ℕ → EReal) (v k : ℕ) (h : ∀ j, v ≤ j → g j = ⊥) : top g (v + k) = top g v := by
  induction k with
  | zero => rfl
  | succ k ih => rw [← Nat.add_assoc, top_succ, ih, h _ (Nat.le_add_right _ _), max_bot_right]

theorem tot_masked (g : ℕ → EReal) (v k : ℕ) (m : EReal) (h : ∀ j, v ≤ j → g j = ⊥) : tot g (v + k) m = tot g v m := by
  induction k with
  | zero => rfl
  | succ k ih =>
    rw [← Nat.add_assoc, tot_succ, ih, h _ (Nat.le_add_right _ _), sub_eq_add_neg, EReal.bot_add, Ideal.exp_bot, add_zero]

theorem top_congr {g g' : ℕ → EReal} {n : ℕ} (h : ∀ j < n, g j = g' j) : top g n = top g' n :=
  Finset.sup_congr rfl fun j hj => h j (Finset.mem_range.mp hj)

theorem tot_congr {g g' : ℕ → EReal} {n : ℕ} (m : EReal) (h : ∀ j < n, g j = g' j) : tot g n m = tot g' n m :=
  Finset.sum_congr rfl fun j hj => by rw [h j (Finset.mem_range.mp hj)]

/-- What a row of eight has picked after `n` groups: the label's value where the label is one of its rows. -/
def picked (g : ℕ → EReal) (lab r n : ℕ) : EReal := if lab % 8 = r ∧ lab / 8 < n then g lab else 0

theorem picked_zero (g : ℕ → EReal) (lab r : ℕ) : picked g lab r 0 = 0 := if_neg fun h => absurd h.2 (Nat.not_lt_zero _)

theorem picked_succ (g : ℕ → EReal) (lab r n : ℕ) (hr : r < 8) :
    picked g lab r (n + 1) = if lab = 8 * n + r then g (8 * n + r) else picked g lab r n := by
  unfold picked
  by_cases h : lab = 8 * n + r
  · rw [if_pos h, if_pos ⟨by omega, by omega⟩, h]
  · rw [if_neg h]
    by_cases h' : lab % 8 = r ∧ lab / 8 < n
    · rw [if_pos h', if_pos ⟨h'.1, by omega⟩]
    · rw [if_neg h', if_neg (by omega)]

theorem picked_rows (g : ℕ → EReal) (lab n : ℕ) (h : lab < 8 * n) : ∑ r ∈ Finset.range 8, picked g lab r n = g lab := by
  rw [Finset.sum_eq_single (lab % 8)]
  · exact if_pos ⟨rfl, by omega⟩
  · intro r _ hr; exact if_neg fun h' => hr h'.1.symm
  · intro h'; exact absurd (Finset.mem_range.mpr (Nat.mod_lt _ (by decide))) h'

end Cert.Online

end

end
-- ==== Proof.Spec.lean ====
/- The quantised inputs and the logits as formulas: the common value of both programs. -/
module

public import proofs.«01_k».proof.Proof.Exponent
public import proofs.«01_k».proof.Proof.Online
public import Idealize.ShloMosaic.Lib.Pointwise.Index
public import Idealize.ShloMosaic.Lib.Pipeline.Value
public import Idealize.ShloMosaic.Lib.MatmulPlain

@[expose] public section

set_option maxRecDepth 16384

noncomputable section

namespace Cert.Spec

open Idealize.ShloMosaic Cert.Exponent

/-- Column `32 b + j`. -/
def col (b j : Fin 32) : Fin 1024 := ⟨32 * b.val + j.val, by omega⟩

/-- The block of a column. -/
def blk (k : Fin 1024) : Fin 32 := ⟨k.val / 32, by omega⟩

/-- A column's place in its block. -/
def plc (k : Fin 1024) : Fin 32 := ⟨k.val % 32, Nat.mod_lt _ (by decide)⟩

theorem col_blk (k : Fin 1024) : col (blk k) (plc k) = k := Fin.ext (Nat.div_add_mod _ _)

theorem blk_col (b j : Fin 32) : blk (col b j) = b := Fin.ext (by show (32 * b.val + j.val) / 32 = b.val; omega)

theorem plc_col (b j : Fin 32) : plc (col b j) = j := Fin.ext (by show (32 * b.val + j.val) % 32 = j.val; omega)

variable (X : (⟨2, ![256, 1024]⟩ : Shape).Idx → EReal)

/-- The magnitude of an input. -/
def mag (x : EReal) : EReal := max x (-x)

/-- A block's largest magnitude, over 448. -/
def scaleTop (r : Fin 256) (b : Fin 32) : EReal :=
  (Finset.univ : Finset (Fin 32)).fold max ⊥ (fun j => mag (X (ix2 r (col b j)))) * Ideal.ofBits .f32 0x3B124925#32

/-- A block's scale exponent. -/
def ex (r : Fin 256) (b : Fin 32) : ℤ := expOf (scaleTop X r b)

/-- Two to an integer. -/
def two (e : ℤ) : EReal := Ideal.exp2 ((e : ℝ) : EReal)

/-- A code, as a number. -/
def code (r : Fin 256) (k : Fin 1024) : EReal :=
  min (Ideal.ofBits .f32 0x43E00000#32) (max (Ideal.ofBits .f32 0xC3E00000#32) (X (ix2 r k) * two (-ex X r (blk k))))

/-- A widened input: code times scale. -/
def wide (r : Fin 256) (k : Fin 1024) : EReal := code X r k * two (ex X r (blk k))

/-- The largest finite input magnitude. -/
def limit : EReal := Ideal.ofBits .bf16 0x7F7F#16

theorem tenth_pos : (0 : EReal) ≤ Ideal.ofBits .f32 0x3B124925#32 := by
  simp [Ideal.ofBits, Ideal.ieee]
  positivity

theorem limit_lt : limit * Ideal.ofBits .f32 0x3B124925#32 < pow 253 := by
  rw [limit, pow_mid (by decide) (by decide)]
  simp [Ideal.ofBits, Ideal.ieee]
  rw [← EReal.coe_pow, ← EReal.coe_pow, ← EReal.coe_mul, ← EReal.coe_mul, ← EReal.coe_mul, EReal.coe_lt_coe_iff]
  norm_num

theorem mag_nonneg (x : EReal) : 0 ≤ mag x := by
  unfold mag
  rcases le_total 0 x with h | h
  · exact le_trans h (le_max_left _ _)
  · exact le_trans (EReal.neg_nonneg.mpr h) (le_max_right _ _)

theorem scaleTop_nonneg (r : Fin 256) (b : Fin 32) : 0 ≤ scaleTop X r b := by
  refine mul_nonneg ?_ tenth_pos
  refine le_trans (mag_nonneg (X (ix2 r (col b 0)))) ?_
  exact (Finset.le_fold_max _).mpr (Or.inr ⟨0, Finset.mem_univ _, le_rfl⟩)

variable (hX : ∀ i, mag (X i) ≤ limit)

include hX in
theorem scaleTop_lt (r : Fin 256) (b : Fin 32) : scaleTop X r b < pow 253 := by
  refine lt_of_le_of_lt (mul_le_mul_of_nonneg_right ?_ tenth_pos) limit_lt
  exact (Finset.fold_max_le _).mpr ⟨bot_le, fun j _ => hX _⟩

include hX in
theorem ex_bounds (r : Fin 256) (b : Fin 32) : -125 ≤ ex X r b ∧ ex X r b ≤ 126 :=
  expOf_bounds (scaleTop_nonneg X r b) (scaleTop_lt X hX r b)

/-- Two to an integer, spelt by an exponent byte. -/
theorem two_eq (n : ℕ) (h0 : n ≠ 0) (h1 : n ≠ 255) (e : ℤ) (he : e = (n : ℤ) - 127) : two e = pow n := exp2_int n h0 h1 e he

/-! ## The logits -/

variable (Q : (⟨2, ![30522, 1024]⟩ : Shape).Idx → EReal) (B : (⟨2, ![30522, 32]⟩ : Shape).Idx → BitVec 8)

/-- A widened weight: code times scale. -/
def wideW (v : Fin 30522) (k : Fin 1024) : EReal := Q (ix2 v k) * two ((B (ix2 v (blk k))).toNat - 127 : ℤ)

/-- A logit. -/
def logit (r : Fin 256) (v : Fin 30522) : EReal := ∑ k : Fin 1024, wide X r k * wideW Q B v k

/-- A logit by its row number, and minus infinity past the vocabulary. -/
def row (r : Fin 256) (n : ℕ) : EReal := if h : n < 30522 then logit X Q B r ⟨n, h⟩ else ⊥

/-- The loss of one input, with the label `l`. -/
def loss (r : Fin 256) (l : ℕ) : EReal :=
  Online.top (row X Q B r) 30522 + Ideal.log (Online.tot (row X Q B r) 30522 (Online.top (row X Q B r) 30522)) - row X Q B r l
    - Ideal.ofBits .f32 0x41253821#32

/-! ## Positions in row-major order -/

theorem pos2 {n0 n1 : ℕ} (a : Fin n0) (b : Fin n1) : ((⟨2, ![n0, n1]⟩ : Shape).rowMajor (ix2 a b)).val = a.val * n1 + b.val :=
  Shape.rowMajor_val_two _

theorem pos3 {n0 n1 n2 : ℕ} (a : Fin n0) (b : Fin n1) (c : Fin n2) :
    ((⟨3, ![n0, n1, n2]⟩ : Shape).rowMajor (ix3 a b c)).val = (a.val * n1 + b.val) * n2 + c.val :=
  Shape.rowMajor_val_three _

theorem pos1 {n0 : ℕ} (a : Fin n0) : ((⟨1, ![n0]⟩ : Shape).rowMajor (ix1 a)).val = a.val := Shape.rowMajor_val_one _

theorem vix {n0 n1 : ℕ} (a : Fin n0) (b : Fin n1) : ValueIdx.ix2 a b = ix2 a b := by
  funext i; match i with | ⟨0, _⟩ => rfl | ⟨1, _⟩ => rfl

/-! ## Reading a transposition, a change of format, and a negative word -/

theorem swap {α : Type} {n0 n1 : ℕ} (x : (⟨2, ![n0, n1]⟩ : Shape).Idx → α) (h : (⟨2, ![n0, n1]⟩ : Shape).Transposes [1, 0] ⟨2, ![n1, n0]⟩)
    (a : Fin n1) (b : Fin n0) : transpose ⟨2, ![n1, n0]⟩ [1, 0] x h (ix2 a b) = x (ix2 b a) :=
  transpose_apply _ _ _ _ _ fun a => by match a with | ⟨0, _⟩ => rfl | ⟨1, _⟩ => rfl

theorem narrow {s : Shape} {φ ψ : FTy} (x : FVec Ideal s φ) (h : ψ.bits < φ.bits) (i : s.Idx) : (truncf ψ x h i : EReal) = x i := rfl

theorem widen {s : Shape} {φ ψ : FTy} (x : FVec Ideal s φ) (h : φ.bits < ψ.bits) (i : s.Idx) : (extf ψ x h i : EReal) = x i := rfl

theorem cut {s : Shape} (x : IVec s 32) (h : 8 < 32) (i : s.Idx) : trunci 8 x h i = (x i).setWidth 8 := rfl

theorem ofInt_word (e : ℤ) (n : ℕ) (h : e = n) : BitVec.ofInt 32 e = BitVec.ofNat 32 n := by subst h; rfl

theorem word_sub (e : ℤ) (n : ℕ) (h : 127 - e = n) : 127#32 - BitVec.ofInt 32 e = BitVec.ofNat 32 n := by
  have k : 127#32 = BitVec.ofInt 32 (127 - e) + BitVec.ofInt 32 e := by
    rw [← BitVec.ofInt_add, Int.sub_add_cancel]; rfl
  rw [k, BitVec.add_sub_cancel, ofInt_word _ n h]

theorem word_add (e : ℤ) (n : ℕ) (h : 127 + e = n) : 127#32 + BitVec.ofInt 32 e = BitVec.ofNat 32 n := by
  rw [← ofInt_word _ n h, BitVec.ofInt_add]; rfl

end Cert.Spec

end

end
-- ==== Proof.Sound.lean ====
/- What the precondition says: finite inputs, scale bytes from 1 to 254, labels that are rows of the vocabulary. -/
module

public import proofs.«01_k».proof.Proof.Spec
public import proofs.«01_k».proof.Pre_sound
public import Idealize.ShloMosaic.Lib.ReduceAll

@[expose] public section

noncomputable section

namespace Cert.Sound

open Cert.Pre_sound Cert.Spec Idealize.ShloMosaic

theorem limit_eq : Ideal.ofBits .f32 0x7F7F0000#32 = limit := by
  simp [limit, Ideal.ofBits, Ideal.ieee]
  rw [← EReal.coe_pow, ← EReal.coe_pow, ← EReal.coe_mul, ← EReal.coe_mul]
  exact congrArg Real.toEReal (by norm_num)

theorem one_and {a b : BitVec 1} (h : a &&& b = 1#1) : a = 1#1 ∧ b = 1#1 := by
  revert a b; decide

instance : Subsingleton S_.Idx := ⟨fun a b => funext fun i => i.elim0⟩

theorem le_one {a b : EReal} (h : Ideal.cmp .ole a b = 1#1) : a ≤ b := by
  by_contra h'
  simp [Ideal.cmp, h'] at h

variable [Facts] (x : FVec Ideal S2x128x1024 .bf16) (q : FVec Ideal S30522x1024 .fp8e4m3) (b : IVec S30522x32 8) (l : IVec S2x128 32)
  (h : fn x q b l = fun _ => 1#1)

include h in
theorem parts : (∀ i, mag (x i) ≤ limit) ∧ (∀ i, BitVec.ofBool (BitVec.ule 1#8 (b i)) &&& BitVec.ofBool (BitVec.ule (b i) 254#8) = 1#1)
    ∧ ∀ i, BitVec.ofBool (BitVec.sle 0#32 (l i)) &&& BitVec.ofBool (BitVec.slt (l i) 30522#32) = 1#1 := by
  have h0 := congrFun h (Shape.Idx.first Facts.h_S_)
  obtain ⟨h1, hl⟩ := one_and h0
  obtain ⟨hx, hb⟩ := one_and h1
  refine ⟨fun i => ?_, fun i => Host.reduce_andi_all _ _ _ _ _ hb i, fun i => Host.reduce_andi_all _ _ _ _ _ hl i⟩
  rw [← limit_eq]
  exact le_one (Host.reduce_andi_all _ _ _ _ _ hx i)

include h in
/-- The inputs are finite. -/
theorem inputs (i : S2x128x1024.Idx) : mag (x i) ≤ limit := (parts x q b l h).1 i

theorem byte_cases : ∀ w : Fin 256, BitVec.ofBool (BitVec.ule 1#8 (BitVec.ofNat 8 w.val)) &&& BitVec.ofBool (BitVec.ule (BitVec.ofNat 8 w.val) 254#8) = 1#1 →
    w.val ≠ 0 ∧ w.val ≠ 255 := by decide +kernel

include h in
/-- The scale bytes are powers of two. -/
theorem bytes (i : S30522x32.Idx) : (b i).toNat ≠ 0 ∧ (b i).toNat ≠ 255 := by
  refine byte_cases ⟨(b i).toNat, (b i).isLt⟩ ?_
  have e : BitVec.ofNat 8 (b i).toNat = b i := BitVec.ofNat_toNat _ _ |>.trans (BitVec.setWidth_eq _)
  show BitVec.ofBool (BitVec.ule 1#8 (BitVec.ofNat 8 (b i).toNat)) &&& BitVec.ofBool (BitVec.ule (BitVec.ofNat 8 (b i).toNat) 254#8) = 1#1
  rw [e]
  exact (parts x q b l h).2.1 i

theorem ofBool_one {p : Bool} (h : BitVec.ofBool p = 1#1) : p = true := by cases p with | true => rfl | false => exact absurd h (by decide)

include h in
/-- The labels are rows of the vocabulary. -/
theorem labels (i : S2x128.Idx) : (l i).toNat < 30522 := by
  obtain ⟨h1, h2⟩ := one_and ((parts x q b l h).2.2 i)
  have h1 := ofBool_one h1
  have h2 := ofBool_one h2
  rw [BitVec.sle_eq_decide, decide_eq_true_eq] at h1
  rw [BitVec.slt_eq_decide, decide_eq_true_eq] at h2
  have e0 : (0#32 : BitVec 32).toInt = 0 := by decide
  have e1 : (30522#32 : BitVec 32).toInt = 30522 := by decide
  rw [e0] at h1
  rw [e1] at h2
  have := BitVec.toInt_eq_toNat_cond (l i)
  have hlt := (l i).isLt
  split at this <;> omega

end Cert.Sound

end
-- ==== Proof.KValue.lean ====
/- What the kernel leaves in its three result arrays, in terms of what its scratch holds after the last tile. -/
module

public import proofs.«01_k».proof.Proof.KFrame
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v6_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v6_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v6_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_v6_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-- The last point. -/
abbrev tLast : Fin cfg0.N := ⟨29, by have : cfg0.N = 30 := N_0; omega⟩

theorem flush_only (w : Fin 7) (hw : 4 ≤ w.val) (t : Fin cfg0.N) (hf : (cfg0.win w).flush t = true) : t = tLast := by
  by_contra h
  have hN : cfg0.N = 30 := N_0
  have hlt : t.val < 29 := by
    have := t.isLt; have : t.val ≠ 29 := fun e => h (Fin.ext e); omega
  rw [noFlush w hw t hlt] at hf; exact Bool.false_ne_true hf

theorem emb4 (y : S1x256.Idx) : ((cfg0.win 4).blk tLast).view.emb y = y := by
  have hi : win0_4.index tLast = ![0, 0] := by decide +kernel
  have hb0 : (((cfg0.win 4).blk tLast).view.emb y 0).val = win0_4.index tLast (0 : Fin 2) * 1 + 1 * (y 0).val := rfl
  have hb1 : (((cfg0.win 4).blk tLast).view.emb y 1).val = win0_4.index tLast (1 : Fin 2) * 256 + 1 * (y 1).val := rfl
  have h0 : win0_4.index tLast (0 : Fin 2) = 0 := by rw [hi]; rfl
  have h1 : win0_4.index tLast (1 : Fin 2) = 0 := by rw [hi]; rfl
  funext a; apply Fin.ext
  match a with
  | ⟨0, _⟩ => rw [h0] at hb0; exact hb0.trans (show 0 * 1 + 1 * (y 0).val = (y 0).val by omega)
  | ⟨1, _⟩ => rw [h1] at hb1; exact hb1.trans (show 0 * 256 + 1 * (y 1).val = (y 1).val by omega)

theorem final_loss (c : Dev nD) : (dats m 0 c).arrAt 4 cfg0.N = lossOf (stateAt m c 29 tLast.isLt) := by
  refine (dats m 0 c).arrAt_eq_of_cover 4 _ (fun t hf => ?_) (fun i => ⟨tLast, by decide +kernel, ?_⟩)
  · obtain rfl := flush_only 4 (by decide) t hf
    show (cfg0.win 4).cut (grid0.coords tLast) ((dats m 0 c).after 4 tLast) = _
    rw [after0_4]
    funext y
    refine Eq.trans ?_ (congrArg (lossOf (stateAt m c 29 tLast.isLt)) (emb4 y)).symm
    rfl
  · have := ((cfg0.win 4).blk tLast).view.emb_mem_set i
    rwa [emb4] at this

theorem emb5 (y : S256x1024.Idx) : ((cfg0.win 5).blk tLast).view.emb y = y := by
  have hi : win0_5.index tLast = ![0, 0] := by decide +kernel
  have hb0 : (((cfg0.win 5).blk tLast).view.emb y 0).val = win0_5.index tLast (0 : Fin 2) * 256 + 1 * (y 0).val := rfl
  have hb1 : (((cfg0.win 5).blk tLast).view.emb y 1).val = win0_5.index tLast (1 : Fin 2) * 1024 + 1 * (y 1).val := rfl
  have h0 : win0_5.index tLast (0 : Fin 2) = 0 := by rw [hi]; rfl
  have h1 : win0_5.index tLast (1 : Fin 2) = 0 := by rw [hi]; rfl
  funext a; apply Fin.ext
  match a with
  | ⟨0, _⟩ => rw [h0] at hb0; exact hb0.trans (show 0 * 256 + 1 * (y 0).val = (y 0).val by omega)
  | ⟨1, _⟩ => rw [h1] at hb1; exact hb1.trans (show 0 * 1024 + 1 * (y 1).val = (y 1).val by omega)

theorem final_codes (c : Dev nD) : (dats m 0 c).arrAt 5 cfg0.N = codesOf (xBlock m c) := by
  refine (dats m 0 c).arrAt_eq_of_cover 5 _ (fun t hf => ?_) (fun i => ⟨tLast, by decide +kernel, ?_⟩)
  · obtain rfl := flush_only 5 (by decide) t hf
    show (cfg0.win 5).cut (grid0.coords tLast) ((dats m 0 c).after 5 tLast) = _
    rw [after0_5]
    funext y
    refine Eq.trans ?_ (congrArg (codesOf (xBlock m c)) (emb5 y)).symm
    rfl
  · have := ((cfg0.win 5).blk tLast).view.emb_mem_set i
    rwa [emb5] at this

theorem emb6 (y : S256x32.Idx) : ((cfg0.win 6).blk tLast).view.emb y = y := by
  have hi : win0_6.index tLast = ![0, 0] := by decide +kernel
  have hb0 : (((cfg0.win 6).blk tLast).view.emb y 0).val = win0_6.index tLast (0 : Fin 2) * 256 + 1 * (y 0).val := rfl
  have hb1 : (((cfg0.win 6).blk tLast).view.emb y 1).val = win0_6.index tLast (1 : Fin 2) * 32 + 1 * (y 1).val := rfl
  have h0 : win0_6.index tLast (0 : Fin 2) = 0 := by rw [hi]; rfl
  have h1 : win0_6.index tLast (1 : Fin 2) = 0 := by rw [hi]; rfl
  funext a; apply Fin.ext
  match a with
  | ⟨0, _⟩ => rw [h0] at hb0; exact hb0.trans (show 0 * 256 + 1 * (y 0).val = (y 0).val by omega)
  | ⟨1, _⟩ => rw [h1] at hb1; exact hb1.trans (show 0 * 32 + 1 * (y 1).val = (y 1).val by omega)

theorem final_bytes (c : Dev nD) : (dats m 0 c).arrAt 6 cfg0.N = bytesOf (xBlock m c) := by
  refine (dats m 0 c).arrAt_eq_of_cover 6 _ (fun t hf => ?_) (fun i => ⟨tLast, by decide +kernel, ?_⟩)
  · obtain rfl := flush_only 6 (by decide) t hf
    show (cfg0.win 6).cut (grid0.coords tLast) ((dats m 0 c).after 6 tLast) = _
    rw [after0_6]
    funext y
    refine Eq.trans ?_ (congrArg (bytesOf (xBlock m c)) (emb6 y)).symm
    rfl
  · have := ((cfg0.win 6).blk tLast).view.emb_mem_set i
    rwa [emb6] at this

/-- The kernel's run: its three results as functions of its arguments, which are unchanged. -/
theorem run_results : θ_run defs (onTc (τ := τ) (main (F := F))) ⟨m, fun _ => 0, ρ⟩ fun r => ∀ c : Dev nD,
      r.2.mem ((c : Thread nD τ).loc main_v6_0) = lossOf (stateAt m c 29 tLast.isLt)
      ∧ r.2.mem ((c : Thread nD τ).loc main_v6_1) = codesOf (xBlock m c)
      ∧ r.2.mem ((c : Thread nD τ).loc main_v6_2) = bytesOf (xBlock m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  have := h c
  rw [final_loss, final_codes, final_bytes] at this
  exact this

/-! ## The blocks the body reads -/

/-- The inputs, all rows of both batches. -/
def xOf (c : Dev nD) : Vec F S256x1024 .bf16 := shapeCast S256x1024 (m ((c : Thread nD τ).loc main_arg0)) shapeCasts_S2x128x1024_S256x1024

/-- The labels in one row. -/
def labOf (c : Dev nD) : Vec F S1x256 .i32 := shapeCast S1x256 (m ((c : Thread nD τ).loc main_arg3)) shapeCasts_S2x128_S1x256

theorem V_x (c : Dev nD) : V m c main_v0 = xOf m c := by
  show StableHlo.after hostOps0 _ _ = _
  after_results
  rfl

theorem V_lab (c : Dev nD) : V m c main_v5 = labOf m c := by
  show StableHlo.after hostOps0 _ _ = _
  after_results
  rfl

theorem V_codes (c : Dev nD) : V m c main_v2 = concatenate S30720x1024 0 [⟨S30522x1024, m ((c : Thread nD τ).loc main_arg1)⟩,
      ⟨S198x1024, extractStridedSlice S198x1024 ![0, 0] (m ((c : Thread nD τ).loc main_arg1)) slices_S30522x1024_S198x1024_0_0⟩]
      concatenates_S30522x1024_S198x1024_S30720x1024_d0 := by
  show StableHlo.after hostOps0 _ _ = _
  after_results

theorem V_bytes (c : Dev nD) : V m c main_v4 = concatenate S30720x32 0 [⟨S30522x32, m ((c : Thread nD τ).loc main_arg2)⟩,
      ⟨S198x32, extractStridedSlice S198x32 ![0, 0] (m ((c : Thread nD τ).loc main_arg2)) slices_S30522x32_S198x32_0_0⟩]
      concatenates_S30522x32_S198x32_S30720x32_d0 := by
  show StableHlo.after hostOps0 _ _ = _
  after_results

theorem concat_left_32 {α : Type} (a : S30522x32.Idx → α) (b : S198x32.Idx → α) (j : S30720x32.Idx) (i : S30522x32.Idx)
    (h0 : (i 0).val = (j 0).val) (h1 : (i 1).val = (j 1).val) :
    concatenate S30720x32 0 [⟨S30522x32, a⟩, ⟨S198x32, b⟩] concatenates_S30522x32_S198x32_S30720x32_d0 j = a i :=
  concatenate_pair_apply_left (t := S30720x32) (s₁ := S30522x32) (s₂ := S198x32) 0 a b _ j rfl i fun b => by
    match b with
    | ⟨0, _⟩ => exact h0
    | ⟨1, _⟩ => exact h1

theorem concat_left_1024 {α : Type} (a : S30522x1024.Idx → α) (b : S198x1024.Idx → α) (j : S30720x1024.Idx) (i : S30522x1024.Idx)
    (h0 : (i 0).val = (j 0).val) (h1 : (i 1).val = (j 1).val) :
    concatenate S30720x1024 0 [⟨S30522x1024, a⟩, ⟨S198x1024, b⟩] concatenates_S30522x1024_S198x1024_S30720x1024_d0 j = a i :=
  concatenate_pair_apply_left (t := S30720x1024) (s₁ := S30522x1024) (s₂ := S198x1024) 0 a b _ j rfl i fun b => by
    match b with
    | ⟨0, _⟩ => exact h0
    | ⟨1, _⟩ => exact h1

/-- Tile `t` of the padded array, where its rows are rows of the vocabulary. -/
theorem block_codes (c : Dev nD) (t : Fin cfg0.N) (y : S1024x1024.Idx) (i : S30522x1024.Idx)
    (h0 : (i 0).val = t.val * 1024 + (y 0).val) (h1 : (i 1).val = (y 1).val) :
    iblk m c 1 t y = m ((c : Thread nD τ).loc main_arg1) i := by
  show V m c main_v2 (((cfg0.win 1).blk t).view.emb y) = _
  rw [V_codes]
  have hi : ∀ t : Fin cfg0.N, win0_1.index t = ![t.val, 0] := by decide +kernel
  have hb0 : (((cfg0.win 1).blk t).view.emb y 0).val = win0_1.index t (0 : Fin 2) * 1024 + 1 * (y 0).val := rfl
  have hb1 : (((cfg0.win 1).blk t).view.emb y 1).val = win0_1.index t (1 : Fin 2) * 1024 + 1 * (y 1).val := rfl
  rw [show win0_1.index t (0 : Fin 2) = t.val from by rw [hi]; rfl] at hb0
  rw [show win0_1.index t (1 : Fin 2) = 0 from by rw [hi]; rfl] at hb1
  refine concat_left_1024 _ _ _ i ?_ ?_
  · rw [h0, hb0]; exact congrArg (t.val * 1024 + ·) (Nat.one_mul _).symm
  · rw [h1, hb1]; exact ((Nat.zero_add _).trans (Nat.one_mul _)).symm

/-- Tile `t` of the padded array, where its rows are rows of the vocabulary. -/
theorem block_bytes (c : Dev nD) (t : Fin cfg0.N) (y : S1024x32.Idx) (i : S30522x32.Idx)
    (h0 : (i 0).val = t.val * 1024 + (y 0).val) (h1 : (i 1).val = (y 1).val) :
    iblk m c 2 t y = m ((c : Thread nD τ).loc main_arg2) i := by
  show V m c main_v4 (((cfg0.win 2).blk t).view.emb y) = _
  rw [V_bytes]
  have hi : ∀ t : Fin cfg0.N, win0_2.index t = ![t.val, 0] := by decide +kernel
  have hb0 : (((cfg0.win 2).blk t).view.emb y 0).val = win0_2.index t (0 : Fin 2) * 1024 + 1 * (y 0).val := rfl
  have hb1 : (((cfg0.win 2).blk t).view.emb y 1).val = win0_2.index t (1 : Fin 2) * 32 + 1 * (y 1).val := rfl
  rw [show win0_2.index t (0 : Fin 2) = t.val from by rw [hi]; rfl] at hb0
  rw [show win0_2.index t (1 : Fin 2) = 0 from by rw [hi]; rfl] at hb1
  refine concat_left_32 _ _ _ i ?_ ?_
  · rw [h0, hb0]; exact congrArg (t.val * 1024 + ·) (Nat.one_mul _).symm
  · rw [h1, hb1]; exact ((Nat.zero_add _).trans (Nat.one_mul _)).symm

theorem block_x (c : Dev nD) (t : Fin cfg0.N) : iblk m c 0 t = xOf m c := by
  rw [← V_x]
  funext y
  show V m c main_v0 (((cfg0.win 0).blk t).view.emb y) = _
  congr 1
  have hi : ∀ t : Fin cfg0.N, win0_0.index t = ![0, 0] := by decide +kernel
  have hb0 : (((cfg0.win 0).blk t).view.emb y 0).val = win0_0.index t (0 : Fin 2) * 256 + 1 * (y 0).val := rfl
  have hb1 : (((cfg0.win 0).blk t).view.emb y 1).val = win0_0.index t (1 : Fin 2) * 1024 + 1 * (y 1).val := rfl
  rw [show win0_0.index t (0 : Fin 2) = 0 from by rw [hi]; rfl] at hb0
  rw [show win0_0.index t (1 : Fin 2) = 0 from by rw [hi]; rfl] at hb1
  funext a; apply Fin.ext
  match a with
  | ⟨0, _⟩ => exact hb0.trans (show 0 * 256 + 1 * (y 0).val = (y 0).val by omega)
  | ⟨1, _⟩ => exact hb1.trans (show 0 * 1024 + 1 * (y 1).val = (y 1).val by omega)

theorem block_lab (c : Dev nD) (t : Fin cfg0.N) : iblk m c 3 t = labOf m c := by
  rw [← V_lab]
  funext y
  show V m c main_v5 (((cfg0.win 3).blk t).view.emb y) = _
  congr 1
  have hi : ∀ t : Fin cfg0.N, win0_3.index t = ![0, 0] := by decide +kernel
  have hb0 : (((cfg0.win 3).blk t).view.emb y 0).val = win0_3.index t (0 : Fin 2) * 1 + 1 * (y 0).val := rfl
  have hb1 : (((cfg0.win 3).blk t).view.emb y 1).val = win0_3.index t (1 : Fin 2) * 256 + 1 * (y 1).val := rfl
  rw [show win0_3.index t (0 : Fin 2) = 0 from by rw [hi]; rfl] at hb0
  rw [show win0_3.index t (1 : Fin 2) = 0 from by rw [hi]; rfl] at hb1
  funext a; apply Fin.ext
  match a with
  | ⟨0, _⟩ => exact hb0.trans (show 0 * 1 + 1 * (y 0).val = (y 0).val by omega)
  | ⟨1, _⟩ => exact hb1.trans (show 0 * 256 + 1 * (y 1).val = (y 1).val by omega)

end Cert.KernelIdeal.Body

end
-- ==== Proof.QuantValue.lean ====
/- The kernel's quantiser, element by element: its codes, scale bytes and widened inputs are the common formulas. -/
module

public import proofs.«01_k».proof.Proof.Spec

@[expose] public section

set_option maxRecDepth 16384

noncomputable section

namespace Cert.KernelIdeal.Body

open Cert.KernelIdeal.Gen Cert.Spec Cert.Exponent
open Idealize.ShloMosaic

variable (X : Vec Ideal S256x1024 .bf16)

theorem blocksOf_apply (b j : Fin 32) (r : Fin 256) : blocksOf X (ix3 b j r) = X (ix2 r (col b j)) := by
  unfold blocksOf
  rw [shapeCast_apply _ _ (ix3 b j r) (ix2 (col b j) r) (by rw [pos2, pos3]; show (32 * b.val + j.val) * 256 + r.val = _; omega)]
  refine (widen (φ := .bf16) (ψ := .f32) _ bitsLt_bf16_f32 _).trans ?_
  rw [swap, shapeCast_self]

theorem lift_mid (h : S32x32x256.Reduces [1] S32x256) (b : Fin 32) (r : Fin 256) (j : Fin 32) : h.lift (ix2 b r) j = ix3 b j r := by
  funext a; match a with | ⟨0, _⟩ => rfl | ⟨1, _⟩ => rfl | ⟨2, _⟩ => rfl

theorem neg_inf : Ideal.ofBits .f32 0xFF800000#32 = ⊥ := by simp [Ideal.ofBits, Ideal.ieee]

theorem blockTop_apply (b : Fin 32) (r : Fin 256) : blockTop X (ix2 b r) = scaleTop X r b := by
  unfold blockTop scaleTop
  refine congrArg (· * Ideal.ofBits .f32 0x3B124925#32) ?_
  refine (Ideal.multiReduction_maximumf_single _ _ _ _ _ _).trans ?_
  refine (congrArg (fun z => Finset.fold max z _ _) neg_inf).trans ?_
  refine congrArg (fun f => Finset.fold max ⊥ f _) (funext fun j => ?_)
  show mag (blocksOf X _) = _
  exact congrArg mag ((congrArg (blocksOf X) (lift_mid _ b r j)).trans (blocksOf_apply X b j r))

theorem powWord_apply (v : IVec S32x256 32) (i : S32x256.Idx) (n : ℕ) (hn : n < 256) (hv : v i = BitVec.ofNat 32 n) :
    powWord (F := Ideal) v i = pow n := by
  rw [← ofBits_pow n hn, ← hv]
  rfl

theorem searchStep_apply (t : FVec Ideal S32x256 .f32) (v : IVec S32x256 32) (i : S32x256.Idx) (a n : ℕ) (h : a + n < 256)
    (hv : v i = BitVec.ofNat 32 a) : searchStep t v (BitVec.ofNat 32 n) i = BitVec.ofNat 32 (stepNat (t i) a n) := by
  have e : addi v (broadcast S32x256 (BitVec.ofNat 32 n)) i = BitVec.ofNat 32 (a + n) := by
    show v i + BitVec.ofNat 32 n = _
    rw [hv, BitVec.ofNat_add]
  have p := powWord_apply (addi v (broadcast S32x256 (BitVec.ofNat 32 n))) i (a + n) h e
  show Scalar.select (BitVec.ofBool (decide (powWord (F := Ideal) (addi v (broadcast S32x256 (BitVec.ofNat 32 n))) i ≤ t i)))
    (addi v (broadcast S32x256 (BitVec.ofNat 32 n)) i) (v i) = _
  rw [e, p, hv, stepNat]
  by_cases hc : pow (a + n) ≤ t i
  · rw [if_pos hc, decide_eq_true hc]; rfl
  · rw [if_neg hc, decide_eq_false hc]; rfl

theorem stepNat_le (t : EReal) (v n : ℕ) : stepNat t v n ≤ v + n := by unfold stepNat; split <;> omega

theorem expByte_apply (t : FVec Ideal S32x256 .f32) (i : S32x256.Idx) : expByte t i = BitVec.ofNat 32 (search (t i)) := by
  have b1 := stepNat_le (t i) 0 128
  have b2 := stepNat_le (t i) (stepNat (t i) 0 128) 64
  have b3 := stepNat_le (t i) (stepNat (t i) (stepNat (t i) 0 128) 64) 32
  have b4 := stepNat_le (t i) (stepNat (t i) (stepNat (t i) (stepNat (t i) 0 128) 64) 32) 16
  have b5 := stepNat_le (t i) (stepNat (t i) (stepNat (t i) (stepNat (t i) (stepNat (t i) 0 128) 64) 32) 16) 8
  have b6 := stepNat_le (t i) (stepNat (t i) (stepNat (t i) (stepNat (t i) (stepNat (t i) (stepNat (t i) 0 128) 64) 32) 16) 8) 4
  have b7 := stepNat_le (t i) (stepNat (t i) (stepNat (t i) (stepNat (t i) (stepNat (t i) (stepNat (t i) (stepNat (t i) 0 128) 64) 32) 16) 8) 4) 2
  have s1 := searchStep_apply t (broadcast S32x256 0#32) i 0 128 (by omega) rfl
  have s2 := searchStep_apply t _ i _ 64 (by omega) s1
  have s3 := searchStep_apply t _ i _ 32 (by omega) s2
  have s4 := searchStep_apply t _ i _ 16 (by omega) s3
  have s5 := searchStep_apply t _ i _ 8 (by omega) s4
  have s6 := searchStep_apply t _ i _ 4 (by omega) s5
  have s7 := searchStep_apply t _ i _ 2 (by omega) s6
  exact searchStep_apply t _ i _ 1 (by omega) s7

theorem select_exp : ∀ n : Fin 256, Scalar.select
    (BitVec.ofBool (BitVec.ofNat 32 n.val == 0#32) ||| BitVec.ofBool (BitVec.ofNat 32 n.val == 255#32)) 0#32 (BitVec.ofNat 32 n.val - 126#32)
      = BitVec.ofInt 32 (if n.val = 0 ∨ n.val = 255 then 0 else (n.val : ℤ) - 126) := by decide +kernel

theorem select_exp_nat (w : BitVec 32) (n : ℕ) (h : n < 256) (hw : w = BitVec.ofNat 32 n) : Scalar.select
    (BitVec.ofBool (w == 0#32) ||| BitVec.ofBool (w == 255#32)) 0#32 (w - 126#32)
      = BitVec.ofInt 32 (if n = 0 ∨ n = 255 then 0 else (n : ℤ) - 126) := by
  subst hw; exact select_exp ⟨n, h⟩

theorem blockExp_apply (b : Fin 32) (r : Fin 256) : blockExp X (ix2 b r) = BitVec.ofInt 32 (ex X r b) := by
  have h := expByte_apply (blockTop X) (ix2 b r)
  rw [blockTop_apply] at h
  unfold ex expOf
  rw [← select_exp_nat _ _ (search_lt (scaleTop_nonneg X r b)) h]
  rfl

/-- The scale bytes. -/
theorem bytesOf_apply (r : Fin 256) (b : Fin 32) : bytesOf X (ix2 r b) = (BitVec.ofInt 32 (ex X r b) + 127#32).setWidth 8 := by
  unfold bytesOf
  have h : addi (blockExp X) (broadcast S32x256 127#32) (ix2 b r) = BitVec.ofInt 32 (ex X r b) + 127#32 := by
    show blockExp X (ix2 b r) + 127#32 = _
    rw [blockExp_apply]
  rw [cut, swap, h]

theorem broadcast_mid (v : FVec Ideal S32x256 .f32) (b j : Fin 32) (r : Fin 256) :
    broadcastTo S32x32x256 (shapeCast S32x1x256 v shapeCasts_S32x256_S32x1x256) broadcasts_S32x1x256_S32x32x256 (ix3 b j r) = v (ix2 b r) := by
  rw [broadcastTo_apply _ _ (ix3 b j r) (ix3 b (0 : Fin 1) r) (fun a => by match a with | ⟨0, _⟩ => rfl | ⟨1, _⟩ => rfl | ⟨2, _⟩ => rfl)]
  exact shapeCast_apply _ _ (ix3 b (0 : Fin 1) r) (ix2 b r) (by rw [pos2, pos3]; show _ = (b.val * 1 + 0) * 256 + r.val; omega)

variable (hX : ∀ i, mag (X i) ≤ limit)

include hX

theorem scale_down (b : Fin 32) (r : Fin 256) : powWord (F := Ideal) (subi (broadcast S32x256 127#32) (blockExp X)) (ix2 b r) = two (-ex X r b) := by
  have hb := ex_bounds X hX r b
  rw [two_eq (127 - ex X r b).toNat (by omega) (by omega) _ (by omega)]
  refine powWord_apply _ _ _ (by omega) ?_
  exact (congrArg (127#32 - ·) (blockExp_apply X b r)).trans (word_sub _ _ (by omega))

theorem scale_up (b : Fin 32) (r : Fin 256) : powWord (F := Ideal) (addi (broadcast S32x256 127#32) (blockExp X)) (ix2 b r) = two (ex X r b) := by
  have hb := ex_bounds X hX r b
  rw [two_eq (127 + ex X r b).toNat (by omega) (by omega) _ (by omega)]
  refine powWord_apply _ _ _ (by omega) ?_
  exact (congrArg (127#32 + ·) (blockExp_apply X b r)).trans (word_add _ _ (by omega))

theorem blockCodes_apply (b j : Fin 32) (r : Fin 256) : blockCodes X (ix3 b j r) = code X r (col b j) := by
  have h : mulf (blocksOf X) (broadcastTo S32x32x256
      (shapeCast S32x1x256 (powWord (subi (broadcast S32x256 127#32) (blockExp X))) shapeCasts_S32x256_S32x1x256)
      broadcasts_S32x1x256_S32x32x256) (ix3 b j r) = X (ix2 r (col b j)) * two (-ex X r b) := by
    show blocksOf X (ix3 b j r) * broadcastTo S32x32x256 _ _ (ix3 b j r) = _
    rw [blocksOf_apply, broadcast_mid, scale_down X hX]
  unfold code
  rw [blk_col, ← h]
  rfl

/-- The codes. -/
theorem codesOf_apply (r : Fin 256) (k : Fin 1024) : codesOf X (ix2 r k) = code X r k := by
  unfold codesOf
  refine (narrow (φ := .f32) (ψ := .fp8e4m3) _ bitsLt_fp8e4m3_f32 _).trans ?_
  rw [swap, shapeCast_apply _ _ (ix2 k r) (ix3 (blk k) (plc k) r)
      (by rw [pos2, pos3]; show (k.val / 32 * 32 + k.val % 32) * 256 + r.val = _; rw [Nat.div_add_mod']),
    blockCodes_apply X hX, col_blk]

/-- The widened inputs. -/
theorem widened_apply (k : Fin 1024) (r : Fin 256) : widened X (ix2 k r) = wide X r k := by
  unfold widened
  rw [shapeCast_self]
  refine (narrow (φ := .f32) (ψ := .bf16) _ bitsLt_bf16_f32 _).trans ?_
  rw [shapeCast_apply _ _ (ix2 k r) (ix3 (blk k) (plc k) r)
      (by rw [pos2, pos3]; show (k.val / 32 * 32 + k.val % 32) * 256 + r.val = _; rw [Nat.div_add_mod'])]
  show blockCodes X (ix3 (blk k) (plc k) r) * broadcastTo S32x32x256 _ _ (ix3 (blk k) (plc k) r) = _
  rw [blockCodes_apply X hX, broadcast_mid, scale_up X hX, col_blk]
  rfl

end Cert.KernelIdeal.Body

end

end
-- ==== Proof.Logit.lean ====
/- The kernel's logits, element by element: the sum over the columns of widened input times widened weight. -/
module

public import proofs.«01_k».proof.Proof.QuantValue
public import proofs.«01_k».proof.Proof.Steps
public import Idealize.ShloMosaic.Lib.BitcastPair

@[expose] public section

set_option maxRecDepth 16384

noncomputable section

namespace Cert.KernelIdeal.Body

open Cert.KernelIdeal.Gen Cert.Spec Cert.Exponent
open Idealize.ShloMosaic

/-! ## The lane's block -/

/-- One lane's block from its number, as the kernel computes it. -/
def laneWord (l d : BitVec 32) : BitVec 32 :=
  let q := Scalar.select
    (BitVec.ofBool (((BitVec.ofBool (BitVec.slt 0#32 l)).setWidth 32 - (BitVec.ofBool (BitVec.slt l 0#32)).setWidth 32)
        != (Scalar.subi (Scalar.extui (Scalar.cmpi .sgt 32#32 0#32)) (Scalar.extui (Scalar.cmpi .slt 32#32 0#32))))
      &&& BitVec.ofBool (IntOp.remsi .vector l 32#32 != 0#32))
    (IntOp.divsi .vector l 32#32 - 1#32) (IntOp.divsi .vector l 32#32)
  Scalar.select (BitVec.ofBool (BitVec.slt (q + d) 0#32)) (q + d + 128#32) (q + d)

theorem laneIndex_word (d : BitVec 32) (i : Fin 128) (l : Fin 128) : laneIndex d (ix2 i l) = laneWord (BitVec.ofNat 32 l.val) d := by
  have e : lanes (ix2 i l) = BitVec.ofNat 32 l.val := iota_single_apply _ _ _ _ _ _
  rw [← e]
  rfl

theorem laneWord_eq : ∀ l : Fin 128, ∀ p : Fin 8, laneWord (BitVec.ofNat 32 l.val) (BitVec.ofNat 32 (4 * p.val)) = BitVec.ofNat 32 (4 * p.val + l.val / 32) := by
  decide +kernel

/-! ## The scales -/

variable (q : Vec Ideal S256x1024 .fp8e4m3) (b : Vec Ideal S256x32 .i8)

/-- A scale byte as a bfloat16 word. -/
def half (w : BitVec 8) : BitVec 16 := BitVec.ofNat 16 w.toNat <<< (7 : ℕ)

theorem half_eq : ∀ n : Fin 256, ((BitVec.ofNat 8 n.val).setWidth 32 <<< (7 : ℕ)).setWidth 16 = half (BitVec.ofNat 8 n.val) := by decide +kernel

theorem half_word (w : BitVec 8) : (w.setWidth 32 <<< (7 : ℕ)).setWidth 16 = half w := by
  have h := half_eq ⟨w.toNat, w.isLt⟩
  rwa [show BitVec.ofNat 8 w.toNat = w from BitVec.eq_of_toNat_eq (by rw [BitVec.toNat_ofNat]; exact Nat.mod_eq_of_lt w.isLt)] at h

/-- The bfloat16 words before the pairing. -/
def halves : IVec S256x32 16 :=
  trunci 16 (shli (extui 32 (shapeCast S256x32 b shapeCasts_S256x32_S256x32) natLt_8_32) (broadcast S256x32 7#32)) natLt_16_32

theorem halves_apply (i : Fin 256) (c : Fin 32) : halves b (ix2 i c) = half (b (ix2 i c)) := by
  unfold halves
  show BitVec.setWidth 16 (IntOp.shli .vector ((shapeCast S256x32 b shapeCasts_S256x32_S256x32 (ix2 i c) : BitVec 8).setWidth 32) 7#32) = _
  rw [shapeCast_self, ← half_word]
  generalize (b (ix2 i c) : BitVec 8).setWidth 32 = w
  rfl

/-- A word of the padded array holds the scales of rows `2 h` (low) and `2 h + 1` (high). -/
theorem scaleWords_apply (h : Fin 128) (c : Fin 32) (lo hi : Fin 256) (hlo : lo.val = 2 * h.val) (hhi : hi.val = 2 * h.val + 1) :
    scaleWords b (ix2 h (⟨c.val, by omega⟩ : Fin 128)) = half (b (ix2 hi c)) ++ half (b (ix2 lo c)) := by
  unfold scaleWords
  rw [concatenate_pair_apply_left (t := S128x128) (s₁ := S128x32) (s₂ := S128x96) 1 _ _ _ (ix2 h (⟨c.val, by omega⟩ : Fin 128)) rfl (ix2 h c)
    (fun a => by match a with | ⟨0, _⟩ => rfl | ⟨1, _⟩ => rfl)]
  refine (bitcast_16_32 (halves b) bitcasts_S256x32_w16_S128x32_w32 (ix2 h c)).trans ?_
  rw [← halves_apply, ← halves_apply]
  refine congrArg₂ (fun x y : BitVec 16 => x ++ y) (congrArg (halves b) (funext fun a => Fin.ext ?_))
    (congrArg (halves b) (funext fun a => Fin.ext ?_))
  · match a with
    | ⟨0, _⟩ => exact hhi.symm
    | ⟨1, _⟩ => rfl
  · match a with
    | ⟨0, _⟩ => exact hlo.symm
    | ⟨1, _⟩ => rfl

/-- Row `i`'s half of its word. -/
theorem word_half (x y : BitVec 16) (i : ℕ) : (x ++ y : BitVec 32).extractLsb' (16 * (i % 2)) 16 = if i % 2 = 0 then y else x := by
  have h : i % 2 = 0 ∨ i % 2 = 1 := by omega
  apply BitVec.eq_of_getLsbD_eq
  intro j hj
  rcases h with h | h
  · rw [h, if_pos rfl, BitVec.getLsbD_extractLsb']; show (_ && BitVec.getLsbD (x ++ y : BitVec (16 + 16)) _) = _; rw [BitVec.getLsbD_append]; simp [hj]
  · rw [h, if_neg (by decide), BitVec.getLsbD_extractLsb']; show (_ && BitVec.getLsbD (x ++ y : BitVec (16 + 16)) _) = _; rw [BitVec.getLsbD_append]; simp [hj]

theorem laneScale_apply (p : Fin 8) (i : Fin 256) (l : Fin 128) (c : Fin 32) (hc : c.val = 4 * p.val + l.val / 32)
    (h0 : (b (ix2 i c) : BitVec 8).toNat ≠ 0) (h1 : (b (ix2 i c) : BitVec 8).toNat ≠ 255) :
    laneScale b (BitVec.ofNat 32 (4 * p.val)) (ix2 i l) = two ((b (ix2 i c) : BitVec 8).toNat - 127 : ℤ) := by
  have hlt := (b (ix2 i c) : BitVec 8).isLt
  rw [two_eq _ h0 h1 _ rfl, ← ofBits_pow_half _ hlt]
  have hi := i.isLt
  let h : Fin 128 := ⟨i.val / 2, by omega⟩
  let G : IVec S128x128 32 := dynamicGather 1 (scaleWords b)
      (shapeCast S128x128 (shapeCast S128x128x1 (laneIndex (BitVec.ofNat 32 (4 * p.val))) shapeCasts_S128x128_S128x128x1) shapeCasts_S128x128x1_S128x128)
  have e : G (ix2 h l) = half (b (ix2 (⟨2 * h.val + 1, by omega⟩ : Fin 256) c)) ++ half (b (ix2 (⟨2 * h.val, by omega⟩ : Fin 256) c)) := by
    have w : shapeCast S128x128 (shapeCast S128x128x1 (laneIndex (BitVec.ofNat 32 (4 * p.val))) shapeCasts_S128x128_S128x128x1) shapeCasts_S128x128x1_S128x128
        (ix2 h l) = BitVec.ofNat 32 c.val := by
      rw [shapeCast_apply _ _ (ix2 h l) (ix3 h l (0 : Fin 1)) (by rw [pos2, pos3]; show (h.val * 128 + l.val) * 1 + 0 = _; omega),
        shapeCast_apply _ _ (ix3 h l (0 : Fin 1)) (ix2 h l) (by rw [pos2, pos3]; show _ = (h.val * 128 + l.val) * 1 + 0; omega),
        laneIndex_word, laneWord_eq, hc]
    rw [← scaleWords_apply b h c _ _ rfl rfl]
    show dynamicGather 1 (scaleWords b) _ _ = _
    unfold dynamicGather
    refine congrArg (scaleWords b) (funext fun a => Fin.ext ?_)
    match a with
    | ⟨0, _⟩ => rfl
    | ⟨1, _⟩ =>
      show (BitVec.toNat _) % 128 = c.val
      rw [w, BitVec.toNat_ofNat]
      omega
  have g : bitcast S256x128 16 G bitcasts_S128x128_w32_S256x128_w16 (ix2 i l) = half (b (ix2 i c)) := by
    refine (bitcast_32_16 G bitcasts_S128x128_w32_S256x128_w16 (ix2 i l)).trans ?_
    refine (congrArg (fun x : BitVec 32 => x.extractLsb' (16 * (i.val % 2)) 16) ((congrArg G (funext fun a => Fin.ext ?_)).trans e)).trans ?_
    · match a with
      | ⟨0, _⟩ => rfl
      | ⟨1, _⟩ => rfl
    rw [word_half]
    split
    · exact congrArg (fun r : Fin 256 => half (b (ix2 r c))) (Fin.ext (by show 2 * (i.val / 2) = i.val; omega))
    · exact congrArg (fun r : Fin 256 => half (b (ix2 r c))) (Fin.ext (by show 2 * (i.val / 2) + 1 = i.val; omega))
  exact congrArg (Ideal.ofBits .bf16) g

/-! ## The widened weights -/

/-- The lanes from `128 p`. -/
theorem laneBlock_apply (p : Fin 8) (off : Fin 2 → ℕ) (h : S256x1024.Slices off S256x128) (ho0 : off 0 = 0) (ho1 : off 1 = 128 * p.val)
    (i : Fin 256) (l : Fin 128) (k : Fin 1024) (hk : k.val = 128 * p.val + l.val)
    (h0 : (b (ix2 i (blk k)) : BitVec 8).toNat ≠ 0) (h1 : (b (ix2 i (blk k)) : BitVec 8).toNat ≠ 255) :
    laneBlock q b off h (BitVec.ofNat 32 (4 * p.val)) (ix2 i l) = q (ix2 i k) * two ((b (ix2 i (blk k)) : BitVec 8).toNat - 127 : ℤ) := by
  have e : extractStridedSlice S256x128 off (shapeCast S256x1024 q shapeCasts_S256x1024_S256x1024) h (ix2 i l) = q (ix2 i k) := by
    rw [extractStridedSlice_apply off _ h (ix2 i l) (ix2 i k) (fun a => by
      match a with
      | ⟨0, _⟩ => show i.val = off 0 + i.val; omega
      | ⟨1, _⟩ => show k.val = off 1 + l.val; omega), shapeCast_self]
  have s := laneScale_apply b p i l (blk k) (by show k.val / 32 = _; omega) h0 h1
  unfold laneBlock
  show extractStridedSlice S256x128 off (shapeCast S256x1024 q shapeCasts_S256x1024_S256x1024) h (ix2 i l)
    * laneScale b (BitVec.ofNat 32 (4 * p.val)) (ix2 i l) = _
  rw [e, s]

theorem wideRows_apply (i : Fin 256) (k : Fin 1024)
    (h0 : (b (ix2 i (blk k)) : BitVec 8).toNat ≠ 0) (h1 : (b (ix2 i (blk k)) : BitVec 8).toNat ≠ 255) :
    wideRows q b (ix2 i k) = q (ix2 i k) * two ((b (ix2 i (blk k)) : BitVec 8).toNat - 127 : ℤ) := by
  have hp : k.val / 128 < 8 := by omega
  have piece : ∀ (p : Fin 8) (off : Fin 2 → ℕ) (h : S256x1024.Slices off S256x128) (ho0 : off 0 = 0) (ho1 : off 1 = 128 * p.val)
      (xs : List ((s : Shape) × (s.Idx → EReal))) (hxs : Shape.Concatenates (xs.map (·.1)) S256x1024 1) (hlen : p.val < xs.length)
      (hget : xs[p.val] = ⟨S256x128, laneBlock q b off h (BitVec.ofNat 32 (4 * p.val))⟩)
      (hpre : (((xs.take p.val).map (·.1)).map fun s => if h : s.rank = S256x1024.rank then s.size ((1 : Fin 2).cast h.symm) else 0).sum = 128 * p.val)
      (hkp : k.val / 128 = p.val),
      concatenate S256x1024 1 xs hxs (ix2 i k) = q (ix2 i k) * two ((b (ix2 i (blk k)) : BitVec 8).toNat - 127 : ℤ) :=
    fun p off h ho0 ho1 xs hxs hlen hget hpre hkp => by
      rw [concatenate_apply_piece (t := S256x1024) 1 xs hxs (ix2 i k) p.val hlen S256x128 _ hget rfl (128 * p.val) hpre
        (ix2 i (⟨k.val % 128, Nat.mod_lt _ (by decide)⟩ : Fin 128))
        (fun a ha => by match a with | ⟨0, _⟩ => rfl | ⟨1, _⟩ => exact absurd rfl ha)
        (by show 128 * p.val + k.val % 128 = k.val; omega)]
      exact laneBlock_apply q b p off h ho0 ho1 i _ k (by show k.val = 128 * p.val + k.val % 128; omega) h0 h1
  unfold wideRows
  match hq : k.val / 128, hp with
  | 0, _ => exact piece 0 _ _ rfl rfl _ _ (show 0 < 8 by decide) rfl rfl hq
  | 1, _ => exact piece 1 _ _ rfl rfl _ _ (show 1 < 8 by decide) rfl rfl hq
  | 2, _ => exact piece 2 _ _ rfl rfl _ _ (show 2 < 8 by decide) rfl rfl hq
  | 3, _ => exact piece 3 _ _ rfl rfl _ _ (show 3 < 8 by decide) rfl rfl hq
  | 4, _ => exact piece 4 _ _ rfl rfl _ _ (show 4 < 8 by decide) rfl rfl hq
  | 5, _ => exact piece 5 _ _ rfl rfl _ _ (show 5 < 8 by decide) rfl rfl hq
  | 6, _ => exact piece 6 _ _ rfl rfl _ _ (show 6 < 8 by decide) rfl rfl hq
  | 7, _ => exact piece 7 _ _ rfl rfl _ _ (show 7 < 8 by decide) rfl rfl hq

/-! ## The logits -/

variable (X : Vec Ideal S256x1024 .bf16) (hX : ∀ i, mag (X i) ≤ limit)

include hX in
theorem chunkLogits_apply (i r : Fin 256)
    (h0 : ∀ c : Fin 32, (b (ix2 i c) : BitVec 8).toNat ≠ 0) (h1 : ∀ c : Fin 32, (b (ix2 i c) : BitVec 8).toNat ≠ 255) :
    chunkLogits q b (widened X) (ix2 i r)
      = ∑ k : Fin 1024, wide X r k * (q (ix2 i k) * two ((b (ix2 i (blk k)) : BitVec 8).toNat - 127 : ℤ)) := by
  refine (Ideal.matmul_plain_apply (M := 256) (K := 1024) (N := 256) none (wideRows q b) (widened X)
    (constant S256x256 .f32 0x00000000#32) i r).trans ?_
  refine (congrArg (· + _) Ideal.ofBits_zero_f32).trans ((zero_add _).trans (Finset.sum_congr rfl fun k _ => ?_))
  refine (congrArg₂ (fun x y : EReal => x * y) (congrArg (wideRows q b) (vix i k)) (congrArg (widened X) (vix k r))).trans ?_
  show wideRows q b (ix2 i k) * widened X (ix2 k r) = _
  rw [wideRows_apply q b i k (h0 _) (h1 _), widened_apply X hX, mul_comm]

/-- A tile's logits are the vocabulary rows' logits. -/
theorem tileLogits_apply (x1 : Vec Ideal S1024x1024 .fp8e4m3) (x2 : Vec Ideal S1024x32 .i8)
    (Q : S30522x1024.Idx → EReal) (B : S30522x32.Idx → BitVec 8) (hB : ∀ i, (B i).toNat ≠ 0 ∧ (B i).toNat ≠ 255)
    (t n k : ℕ) (hn : n < 4) (hk : k < 32) (s : Fin 8) (r : Fin 256) (v : Fin 30522) (y : Fin 1024)
    (hy : y.val = 256 * n + 8 * k + s.val)
    (hQ : ∀ c : Fin 1024, x1 (ix2 y c) = Q (ix2 v c)) (hBB : ∀ c : Fin 32, x2 (ix2 y c) = B (ix2 v c)) (hX : ∀ i, mag (X i) ≤ limit) :
    tileLogits x1 x2 (widened X) n k (ix2 s r) = logit X Q B r v := by
  have hs := s.isLt
  have hrow : 8 * (k % 32) + s.val < 256 := by omega
  have e : tileLogits x1 x2 (widened X) n k (ix2 s r)
      = chunkLogits (tileCodes x1 n) (tileBytes x2 n) (widened X) (ix2 (⟨8 * (k % 32) + s.val, hrow⟩ : Fin 256) r) := by
    unfold tileLogits rows8
    exact extractStridedSlice_apply _ _ _ (ix2 s r) (ix2 (⟨8 * (k % 32) + s.val, hrow⟩ : Fin 256) r) (fun a => by
      match a with
      | ⟨0, _⟩ => rfl
      | ⟨1, _⟩ => exact (Nat.zero_add _).symm)
  have hq : ∀ c : Fin 1024, tileCodes x1 n (ix2 (⟨8 * (k % 32) + s.val, hrow⟩ : Fin 256) c) = Q (ix2 v c) := fun c => by
    rw [← hQ c]
    unfold tileCodes
    refine congrArg x1 (funext fun a => Fin.ext ?_)
    match a with
    | ⟨0, _⟩ => show 256 * (n % 4) + 1 * (8 * (k % 32) + s.val) = y.val; omega
    | ⟨1, _⟩ => show 0 + 1 * c.val = c.val; omega
  have hb : ∀ c : Fin 32, tileBytes x2 n (ix2 (⟨8 * (k % 32) + s.val, hrow⟩ : Fin 256) c) = B (ix2 v c) := fun c => by
    rw [← hBB c]
    unfold tileBytes
    refine congrArg x2 (funext fun a => Fin.ext ?_)
    match a with
    | ⟨0, _⟩ => show 256 * (n % 4) + 1 * (8 * (k % 32) + s.val) = y.val; omega
    | ⟨1, _⟩ => show 0 + 1 * c.val = c.val; omega
  rw [e, chunkLogits_apply _ _ X hX _ r (fun c => by rw [hb c]; exact (hB _).1) (fun c => by rw [hb c]; exact (hB _).2)]
  refine Finset.sum_congr rfl fun c _ => ?_
  rw [hq c, hb (blk c)]
  rfl

end Cert.KernelIdeal.Body

end

end
-- ==== Proof.Loss.lean ====
/- The running state over the vocabulary: after any number of tiles it holds, per sublane and input, the maximum, the sum of
   exponentials and the label logit of the rows seen; and the loss made from it at the end is the loss over all rows. -/
module

public import proofs.«01_k».proof.Proof.Spec
public import proofs.«01_k».proof.Proof.Steps

@[expose] public section

set_option maxRecDepth 16384

noncomputable section

namespace Cert.KernelIdeal.Body

open Cert.KernelIdeal.Gen Cert.Spec
open Idealize.ShloMosaic

/-- Sublane `s`'s rows, of the rows `g`. -/
def lane (g : ℕ → EReal) (s : ℕ) : ℕ → EReal := fun q => g (8 * q + s)

/-- The maximum part of the state after `n` groups of eight rows. -/
def HoldsM (m : FVec Ideal S8x256 .f32) (g : ℕ → EReal) (s : Fin 8) (r : Fin 256) (n : ℕ) : Prop :=
  m (ix2 s r) = Online.top (lane g s.val) n

/-- The sum part of the state after `n` groups of eight rows. -/
def HoldsS (m : FVec Ideal S8x256 .f32) (g : ℕ → EReal) (s : Fin 8) (r : Fin 256) (n : ℕ) : Prop :=
  m (ix2 s r) = Online.tot (lane g s.val) n (Online.top (lane g s.val) n)

theorem tree_max_apply {S : Shape} (f : ℕ → FVec Ideal S .f32) (i : S.Idx) : tree32 maximumf f i = tree32 max (fun k => (f k i : EReal)) := rfl

theorem tree_add_apply {S : Shape} (f : ℕ → FVec Ideal S .f32) (i : S.Idx) : tree32 addf f i = tree32 (· + ·) (fun k => (f k i : EReal)) := rfl

theorem tree32_congr {α : Type} (op : α → α → α) (f f' : ℕ → α) (h : ∀ k < 32, f k = f' k) : tree32 op f = tree32 op f' := by
  simp only [tree32, pairUp, Nat.mul_zero, Nat.zero_add, Nat.reduceMul, Nat.reduceAdd]
  simp only [h _ (by decide : 0 < 32), h _ (by decide : 1 < 32), h _ (by decide : 2 < 32), h _ (by decide : 3 < 32),
    h _ (by decide : 4 < 32), h _ (by decide : 5 < 32), h _ (by decide : 6 < 32), h _ (by decide : 7 < 32),
    h _ (by decide : 8 < 32), h _ (by decide : 9 < 32), h _ (by decide : 10 < 32), h _ (by decide : 11 < 32),
    h _ (by decide : 12 < 32), h _ (by decide : 13 < 32), h _ (by decide : 14 < 32), h _ (by decide : 15 < 32),
    h _ (by decide : 16 < 32), h _ (by decide : 17 < 32), h _ (by decide : 18 < 32), h _ (by decide : 19 < 32),
    h _ (by decide : 20 < 32), h _ (by decide : 21 < 32), h _ (by decide : 22 < 32), h _ (by decide : 23 < 32),
    h _ (by decide : 24 < 32), h _ (by decide : 25 < 32), h _ (by decide : 26 < 32), h _ (by decide : 27 < 32),
    h _ (by decide : 28 < 32), h _ (by decide : 29 < 32), h _ (by decide : 30 < 32), h _ (by decide : 31 < 32)]

variable {g : ℕ → EReal} {s : Fin 8} {r : Fin 256}

/-- A chunk keeps the maximum. -/
theorem chunkM_holds {f : ℕ → FVec Ideal S8x256 .f32} {m : FVec Ideal S8x256 .f32} {n : ℕ}
    (hf : ∀ k < 32, f k (ix2 s r) = lane g s.val (n + k)) (hm : HoldsM m g s r n) : HoldsM (chunkM f m) g s r (n + 32) := by
  show max (m (ix2 s r)) (tree32 maximumf f (ix2 s r)) = _
  rw [tree_max_apply, tree32_congr max _ _ hf, hm]
  exact Online.top_step _ _

/-- A chunk keeps the sum. -/
theorem chunkS_holds {f : ℕ → FVec Ideal S8x256 .f32} {m t : FVec Ideal S8x256 .f32} {n : ℕ}
    (hf : ∀ k < 32, f k (ix2 s r) = lane g s.val (n + k)) (hm : HoldsM m g s r n) (ht : HoldsS t g s r n) :
    HoldsS (chunkS f m t) g s r (n + 32) := by
  have hM := chunkM_holds hf hm
  show t (ix2 s r) * Ideal.exp (m (ix2 s r) - chunkM f m (ix2 s r)) + tree32 addf (fun k => exp (subf (f k) (chunkM f m))) (ix2 s r) = _
  rw [tree_add_apply, tree32_congr (· + ·) _ (fun k => Ideal.exp (lane g s.val (n + k) - Online.top (lane g s.val) (n + 32)))
    (fun k hk => by
      show Ideal.exp (f k (ix2 s r) - chunkM f m (ix2 s r)) = _
      rw [hf k hk, hM]), hM, hm, ht]
  exact Online.step _ _

/-- The tile's four chunks keep the maximum. -/
theorem runM_holds {f : ℕ → ℕ → FVec Ideal S8x256 .f32} {m : FVec Ideal S8x256 .f32} {t : ℕ}
    (hf : ∀ n < 4, ∀ k < 32, f n k (ix2 s r) = lane g s.val (t * 128 + 32 * n + k)) (hm : HoldsM m g s r (t * 128)) (n : ℕ) (hn : n ≤ 4) :
    HoldsM (runM f m n) g s r (t * 128 + 32 * n) := by
  induction n with
  | zero => exact hm
  | succ n ih => exact chunkM_holds (n := t * 128 + 32 * n) (hf n (by omega)) (ih (by omega))

/-- The tile's four chunks keep the sum. -/
theorem runS_holds {f : ℕ → ℕ → FVec Ideal S8x256 .f32} {m u : FVec Ideal S8x256 .f32} {t : ℕ}
    (hf : ∀ n < 4, ∀ k < 32, f n k (ix2 s r) = lane g s.val (t * 128 + 32 * n + k)) (hm : HoldsM m g s r (t * 128))
    (hu : HoldsS u g s r (t * 128)) (n : ℕ) (hn : n ≤ 4) : HoldsS (runS f m u n) g s r (t * 128 + 32 * n) := by
  induction n with
  | zero => exact hu
  | succ n ih => exact chunkS_holds (n := t * 128 + 32 * n) (hf n (by omega)) (runM_holds hf hm n (by omega)) (ih (by omega))

/-! ## The label -/

variable {L : ℕ}

/-- The label part of the state after `n` groups of eight rows. -/
def HoldsL (m : FVec Ideal S8x256 .f32) (g : ℕ → EReal) (L : ℕ) (s : Fin 8) (r : Fin 256) (n : ℕ) : Prop :=
  m (ix2 s r) = Online.picked g L s.val n

theorem select_apply {α : Type} {S : Shape} (c : IVec S 1) (a b : S.Idx → α) (i : S.Idx) : select c a b i = Scalar.select (c i) (a i) (b i) := rfl

theorem word_eq (L t s n : ℕ) (hL : L < 30522) (ht : t < 30) (hs : s < 8) (hn : n < 1024) :
    ((BitVec.ofNat 32 L - (BitVec.ofNat 32 s + BitVec.ofNat 32 t * 1024#32)) == BitVec.ofNat 32 n) = decide (L = t * 1024 + n + s) := by
  rw [show (1024#32 : BitVec 32) = BitVec.ofNat 32 1024 from rfl, ← BitVec.ofNat_mul, ← BitVec.ofNat_add]
  by_cases h : L = t * 1024 + n + s
  · rw [decide_eq_true h, beq_iff_eq, h, show t * 1024 + n + s = n + (s + t * 1024) by omega, BitVec.ofNat_add (x := n), BitVec.add_sub_cancel]
  · rw [decide_eq_false h, beq_eq_false_iff_ne]
    intro h'
    refine h ?_
    have h2 : BitVec.ofNat 32 L = BitVec.ofNat 32 (n + (s + t * 1024)) := by
      rw [BitVec.ofNat_add, ← h', BitVec.sub_add_cancel]
    have h3 := congrArg BitVec.toNat h2
    rw [BitVec.toNat_ofNat, BitVec.toNat_ofNat] at h3
    omega

/-- A chunk keeps the label logit. -/
theorem pick_holds {rel : IVec S8x256 32} {t c : ℕ} (hL : L < 30522) (ht : t < 30) (hc : c < 4)
    (hrel : rel (ix2 s r) = BitVec.ofNat 32 L - (BitVec.ofNat 32 s.val + BitVec.ofNat 32 t * 1024#32))
    {f : ℕ → FVec Ideal S8x256 .f32} {l : FVec Ideal S8x256 .f32}
    (hf : ∀ k < 32, f k (ix2 s r) = lane g s.val (t * 128 + 32 * c + k)) (hl : HoldsL l g L s r (t * 128 + 32 * c)) (n : ℕ) (hn : n ≤ 32) :
    HoldsL (pick rel (256 * c) f l n) g L s r (t * 128 + 32 * c + n) := by
  induction n with
  | zero => exact hl
  | succ n ih =>
    have ih := ih (by omega)
    have hs := s.isLt
    unfold HoldsL at ih ⊢
    show Scalar.select (BitVec.ofBool (rel (ix2 s r) == BitVec.ofNat 32 (256 * c + 8 * n))) (f n (ix2 s r)) (pick rel (256 * c) f l n (ix2 s r)) = _
    rw [hrel, word_eq L t s.val (256 * c + 8 * n) hL ht hs (by omega), ih, hf n (by omega)]
    show _ = Online.picked g L s.val (t * 128 + 32 * c + n + 1)
    rw [Online.picked_succ _ _ _ _ hs]
    by_cases h : L = 8 * (t * 128 + 32 * c + n) + s.val
    · rw [if_pos h, decide_eq_true (by omega)]; rfl
    · rw [if_neg h, decide_eq_false (by omega)]; rfl

/-- The tile's four chunks keep the label logit. -/
theorem runL_holds {rel : IVec S8x256 32} {t : ℕ} (hL : L < 30522) (ht : t < 30)
    (hrel : rel (ix2 s r) = BitVec.ofNat 32 L - (BitVec.ofNat 32 s.val + BitVec.ofNat 32 t * 1024#32))
    {f : ℕ → ℕ → FVec Ideal S8x256 .f32} {l : FVec Ideal S8x256 .f32}
    (hf : ∀ n < 4, ∀ k < 32, f n k (ix2 s r) = lane g s.val (t * 128 + 32 * n + k)) (hl : HoldsL l g L s r (t * 128)) (n : ℕ) (hn : n ≤ 4) :
    HoldsL (runL rel f l n) g L s r (t * 128 + 32 * n) := by
  induction n with
  | zero => exact hl
  | succ n ih => exact pick_holds hL ht (by omega) hrel (hf n (by omega)) (ih (by omega)) 32 le_rfl

/-! ## The state -/

/-- The state after `t` tiles over the rows `g`, with the label `L`, for sublane `s` and input `r`. -/
structure Holds (st : State Ideal) (g : ℕ → EReal) (L : ℕ) (s : Fin 8) (r : Fin 256) (t : ℕ) : Prop where
  top : HoldsM st.top g s r (t * 128)
  sum : HoldsS st.sum g s r (t * 128)
  lab : HoldsL st.lab g L s r (t * 128)

theorem mask_bot : (Named.named κ "mask" 0xF149F2CA#32 : Ideal .f32) = (⊥ : EReal) := rfl

/-- At the start. -/
theorem fresh_holds (x0 : Vec Ideal S256x1024 .bf16) : Holds (fresh x0) g L s r 0 where
  top := mask_bot
  sum := Ideal.ofBits_zero_f32
  lab := by
    refine Eq.trans ?_ (Eq.symm (if_neg fun h => absurd h.2 (by rw [Nat.zero_mul]; exact Nat.not_lt_zero _)))
    exact Ideal.ofBits_zero_f32

theorem labelRel_apply (t : ℕ) (lab : Vec Ideal S1x256 .i32) (hlab : lab (ix2 (0 : Fin 1) r) = BitVec.ofNat 32 L) :
    labelRel (F := Ideal) (BitVec.ofNat 32 t) lab (ix2 s r) = BitVec.ofNat 32 L - (BitVec.ofNat 32 s.val + BitVec.ofNat 32 t * 1024#32) := by
  have e : broadcastTo S8x256 (shapeCast S1x256 lab shapeCasts_S1x256_S1x256) broadcasts_S1x256_S8x256 (ix2 s r) = BitVec.ofNat 32 L := by
    rw [broadcastTo_apply _ _ (ix2 s r) (ix2 (0 : Fin 1) r) (fun a => by match a with | ⟨0, _⟩ => rfl | ⟨1, _⟩ => rfl), shapeCast_self]
    exact hlab
  have i : iota .tc S8x256 32 [0] iota_S8x256_d0_w32 (ix2 s r) = BitVec.ofNat 32 s.val := iota_single_apply _ _ _ _ _ _
  show _ - (iota .tc S8x256 32 [0] iota_S8x256_d0_w32 (ix2 s r) + BitVec.ofNat 32 t * 1024#32) = _
  rw [i]
  exact congrArg (· - (BitVec.ofNat 32 s.val + BitVec.ofNat 32 t * 1024#32)) e

/-- A tile keeps it. -/
theorem advance_holds {t : ℕ} (ht : t < 30) (hL : L < 30522) {x3 : Vec Ideal S1x256 .i32} (hlab : x3 (ix2 (0 : Fin 1) r) = BitVec.ofNat 32 L)
    {f : ℕ → ℕ → FVec Ideal S8x256 .f32} (hf : ∀ n < 4, ∀ k < 32, f n k (ix2 s r) = lane g s.val (t * 128 + 32 * n + k))
    {st : State Ideal} (h : Holds st g L s r t) : Holds (advance (BitVec.ofNat 32 t) x3 f st) g L s r (t + 1) where
  top := by
    have := runM_holds hf h.top 4 le_rfl
    rwa [show t * 128 + 32 * 4 = (t + 1) * 128 by omega] at this
  sum := by
    have := runS_holds hf h.top h.sum 4 le_rfl
    rwa [show t * 128 + 32 * 4 = (t + 1) * 128 by omega] at this
  lab := by
    have := runL_holds hL ht (labelRel_apply t x3 hlab) hf h.lab 4 le_rfl
    rwa [show t * 128 + 32 * 4 = (t + 1) * 128 by omega] at this

theorem word_lt (t s n : ℕ) (ht : t < 30) (hs : s < 8) (hn : n < 1024) :
    BitVec.slt (BitVec.ofNat 32 s + BitVec.ofNat 32 t * 1024#32 + BitVec.ofNat 32 n) 30522#32 = decide (t * 1024 + n + s < 30522) := by
  rw [show (1024#32 : BitVec 32) = BitVec.ofNat 32 1024 from rfl, ← BitVec.ofNat_mul, ← BitVec.ofNat_add, ← BitVec.ofNat_add, BitVec.slt]
  have e : (BitVec.ofNat 32 (s + t * 1024 + n)).toInt = (s + t * 1024 + n : ℕ) := by
    have h : (BitVec.ofNat 32 (s + t * 1024 + n)).toNat = s + t * 1024 + n := by rw [BitVec.toNat_ofNat]; omega
    rw [BitVec.toInt_eq_toNat_of_lt (by rw [h]; omega), h]
  rw [e]
  show decide (((s + t * 1024 + n : ℕ) : ℤ) < 30522) = _
  exact decide_eq_decide.mpr (by omega)

/-- The last tile's masked rows are minus infinity. -/
theorem masked_apply {t c k : ℕ} (ht : t < 30) (hc : c < 4) (hk : k < 32) (f : ℕ → FVec Ideal S8x256 .f32)
    (hf : 8 * (t * 128 + 32 * c + k) + s.val < 30522 → f k (ix2 s r) = lane g s.val (t * 128 + 32 * c + k))
    (hg : ∀ j, 30522 ≤ j → g j = ⊥) :
    masked (rowBase (BitVec.ofNat 32 t)) (256 * c) f k (ix2 s r) = lane g s.val (t * 128 + 32 * c + k) := by
  have hs := s.isLt
  have i : iota .tc S8x256 32 [0] iota_S8x256_d0_w32 (ix2 s r) = BitVec.ofNat 32 s.val := iota_single_apply _ _ _ _ _ _
  show Scalar.select (BitVec.ofBool (BitVec.slt (iota .tc S8x256 32 [0] iota_S8x256_d0_w32 (ix2 s r) + BitVec.ofNat 32 t * 1024#32
    + BitVec.ofNat 32 (256 * c + 8 * k)) 30522#32)) (f k (ix2 s r)) (Named.named κ "mask" 0xF149F2CA#32 : Ideal .f32) = _
  rw [i, word_lt t s.val _ ht hs (by omega), mask_bot]
  by_cases h : 8 * (t * 128 + 32 * c + k) + s.val < 30522
  · rw [decide_eq_true (by omega), hf h]; rfl
  · rw [decide_eq_false (by omega)]
    exact (hg _ (by omega)).symm

/-! ## The loss -/

theorem lift_first (h : S8x256.Reduces [0] S256) (r : Fin 256) (s : Fin 8) : h.lift (ix1 r) s = ix2 s r := by
  funext a; match a with | ⟨0, _⟩ => rfl | ⟨1, _⟩ => rfl

theorem flat (v : FVec Ideal S256 .f32) (r : Fin 256) : shapeCast S1x256 v shapeCasts_S256_S1x256 (ix2 (0 : Fin 1) r) = v (ix1 r) :=
  shapeCast_apply _ _ _ _ (by rw [pos1, pos2]; show r.val = 0 * 256 + r.val; omega)

theorem sum_first (v : FVec Ideal S8x256 .f32) (r : Fin 256) :
    multiReduction .add [0] S256 v 0x00000000#32 reduces_S8x256_S256 (.inl rfl) rfl (ix1 r) = ∑ s : Fin 8, (v (ix2 s r) : EReal) := by
  refine (Ideal.multiReduction_add_single _ _ _ _ _ _).trans ?_
  exact Finset.sum_congr rfl fun s _ => congrArg v (lift_first _ r s)

theorem fold_top (g : ℕ → EReal) (n : ℕ) : (Finset.univ : Finset (Fin n)).fold max ⊥ (fun i => g i.val) = Online.top g n := by
  refine le_antisymm ((Finset.fold_max_le _).mpr ⟨bot_le, fun i _ => ?_⟩) (Finset.sup_le fun q hq => ?_)
  · exact Finset.le_sup (f := g) (Finset.mem_range.mpr i.isLt)
  · exact (Finset.le_fold_max _).mpr (Or.inr ⟨⟨q, Finset.mem_range.mp hq⟩, Finset.mem_univ _, le_rfl⟩)

theorem bits_bot : Ideal.ofBits .f32 0xFF800000#32 = ⊥ := by simp [Ideal.ofBits, Ideal.ieee]

theorem max_first (v : FVec Ideal S8x256 .f32) (r : Fin 256) :
    multiReduction .maximumf [0] S256 v 0xFF800000#32 reduces_S8x256_S256 (.inl rfl) rfl (ix1 r)
      = (Finset.univ : Finset (Fin 8)).fold max ⊥ (fun s => (v (ix2 s r) : EReal)) := by
  refine (Ideal.multiReduction_maximumf_single _ _ _ _ _ _).trans ?_
  refine (congrArg (fun z => Finset.fold max z _ _) bits_bot).trans ?_
  exact congrArg (fun f => Finset.fold max ⊥ f _) (funext fun s => congrArg v (lift_first _ r s))

/-- The loss made from the state after all tiles. -/
theorem lossOf_apply {st : State Ideal} (h : ∀ s : Fin 8, Holds st g L s r 30) (hL : L < 30522) (hg : ∀ j, 30522 ≤ j → g j = ⊥) :
    lossOf st (ix2 (0 : Fin 1) r)
      = Online.top g 30522 + Ideal.log (Online.tot g 30522 (Online.top g 30522)) - g L - Ideal.ofBits .f32 0x41253821#32 := by
  have hM : shapeCast S1x256 (multiReduction (F := Ideal) .maximumf [0] S256 st.top 0xFF800000#32 reduces_S8x256_S256 (.inl rfl) rfl)
      shapeCasts_S256_S1x256 (ix2 (0 : Fin 1) r) = Online.top g 30522 := by
    rw [flat, max_first, show (fun s : Fin 8 => (st.top (ix2 s r) : EReal)) = fun s => Online.top (lane g s.val) 3840 from funext fun s => (h s).top,
      fold_top (fun s => Online.top (lane g s) 3840) 8]
    exact (Online.top_rows g 3840).trans (Online.top_masked g 30522 198 hg)
  have hS : shapeCast S1x256 (multiReduction (F := Ideal) .add [0] S256
      (mulf st.sum (exp (subf st.top (broadcastTo S8x256 (shapeCast S1x256
        (multiReduction (F := Ideal) .maximumf [0] S256 st.top 0xFF800000#32 reduces_S8x256_S256 (.inl rfl) rfl) shapeCasts_S256_S1x256)
        broadcasts_S1x256_S8x256)))) 0x00000000#32 reduces_S8x256_S256 (.inl rfl) rfl) shapeCasts_S256_S1x256 (ix2 (0 : Fin 1) r)
      = Online.tot g 30522 (Online.top g 30522) := by
    rw [flat, sum_first]
    have e : ∀ s : Fin 8, broadcastTo S8x256 (shapeCast S1x256
        (multiReduction (F := Ideal) .maximumf [0] S256 st.top 0xFF800000#32 reduces_S8x256_S256 (.inl rfl) rfl) shapeCasts_S256_S1x256)
        broadcasts_S1x256_S8x256 (ix2 s r) = Online.top g 30522 := fun s => by
      rw [broadcastTo_apply _ _ (ix2 s r) (ix2 (0 : Fin 1) r) (fun a => by match a with | ⟨0, _⟩ => rfl | ⟨1, _⟩ => rfl)]
      exact hM
    refine (Finset.sum_congr rfl fun s _ => ?_).trans ((Fin.sum_univ_eq_sum_range (fun s =>
      Online.tot (lane g s) 3840 (Online.top (lane g s) 3840) * Ideal.exp (Online.top (lane g s) 3840 - Online.top g 30522)) 8).trans
        ((Online.tot_rows g 3840 (Online.top g 30522) (le_of_eq (Online.top_masked g 30522 198 hg))).trans (Online.tot_masked g 30522 198 _ hg)))
    show st.sum (ix2 s r) * Ideal.exp (st.top (ix2 s r) - broadcastTo S8x256 _ _ (ix2 s r)) = _
    rw [e s, (h s).top, (h s).sum]
  have hLab : shapeCast S1x256 (multiReduction (F := Ideal) .add [0] S256 st.lab 0x00000000#32 reduces_S8x256_S256 (.inl rfl) rfl)
      shapeCasts_S256_S1x256 (ix2 (0 : Fin 1) r) = g L := by
    rw [flat, sum_first]
    refine (Finset.sum_congr rfl fun s _ => (h s).lab).trans ((Fin.sum_univ_eq_sum_range (fun s => Online.picked g L s 3840) 8).trans ?_)
    exact Online.picked_rows g L 3840 (by omega)
  rw [← hLab, ← hS, ← hM]
  rfl

end Cert.KernelIdeal.Body

end

end
-- ==== Proof.Vocabulary.lean ====
/- The kernel over all tiles: after each tile its state holds the maximum, the sum and the label logit of the rows seen, so
   after the last one its loss is the loss over the whole vocabulary. -/
module

public import proofs.«01_k».proof.Proof.KValue
public import proofs.«01_k».proof.Proof.Logit
public import proofs.«01_k».proof.Proof.Loss

@[expose] public section

set_option maxRecDepth 16384

noncomputable section

namespace Cert.KernelIdeal.Body

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-- The weight codes. -/
def codeArg : S30522x1024.Idx → EReal := m ((c : Thread nD τ).loc main_arg1)

/-- The weight scale bytes. -/
def byteArg : S30522x32.Idx → BitVec 8 := m ((c : Thread nD τ).loc main_arg2)

/-- The vocabulary rows' logits for one input. -/
def rowOf (r : Fin 256) : ℕ → EReal := row (xOf m c) (codeArg m c) (byteArg m c) r

theorem rowOf_past (r : Fin 256) (j : ℕ) (h : 30522 ≤ j) : rowOf m c r j = ⊥ := dif_neg (Nat.not_lt.mpr h)

theorem rowOf_in (r : Fin 256) (j : ℕ) (h : j < 30522) : rowOf m c r j = logit (xOf m c) (codeArg m c) (byteArg m c) r ⟨j, h⟩ := dif_pos h

/-- The tile's number, as the kernel reads it. -/
theorem pointWord_eq : ∀ t : Fin cfg0.N, pointWord t = BitVec.ofNat 32 t.val :=
  (by decide +kernel : ∀ t : Fin grid0.N, BitVec.ofNat 32 (grid0.coords t 0).val = BitVec.ofNat 32 t.val)

variable (hX : ∀ i, mag (xOf m c i) ≤ limit) (hB : ∀ i, (byteArg m c i).toNat ≠ 0 ∧ (byteArg m c i).toNat ≠ 255)

include hX hB in
/-- A tile's logits are those of the vocabulary rows it holds. -/
theorem tile_rows (t : Fin cfg0.N) (n k : ℕ) (hn : n < 4) (hk : k < 32) (s : Fin 8) (r : Fin 256)
    (h : 8 * (t.val * 128 + 32 * n + k) + s.val < 30522) :
    tileLogits (iblk m c 1 t) (iblk m c 2 t) (widened (xOf m c)) n k (ix2 s r) = lane (rowOf m c r) s.val (t.val * 128 + 32 * n + k) := by
  have hs := s.isLt
  have hy : 256 * n + 8 * k + s.val < 1024 := by omega
  refine (tileLogits_apply (X := xOf m c) (hX := hX) (iblk m c 1 t) (iblk m c 2 t) (codeArg m c) (byteArg m c) hB t.val n k hn hk s r
    ⟨8 * (t.val * 128 + 32 * n + k) + s.val, h⟩ ⟨256 * n + 8 * k + s.val, hy⟩ rfl (fun j => ?_) (fun j => ?_)).trans ?_
  · exact block_codes m c t _ _ (by show 8 * (t.val * 128 + 32 * n + k) + s.val = t.val * 1024 + (256 * n + 8 * k + s.val); omega) rfl
  · exact block_bytes m c t _ _ (by show 8 * (t.val * 128 + 32 * n + k) + s.val = t.val * 1024 + (256 * n + 8 * k + s.val); omega) rfl
  · exact (rowOf_in m c r _ h).symm

/-- The widened inputs stay in the scratch. -/
theorem state_wide (n : ℕ) (h : n < cfg0.N) : (stateAt m c n h).wide = widened (xOf m c) := by
  induction n with
  | zero =>
    rw [stateAt_first m c ⟨0, h⟩ rfl, block_x]; rfl
  | succ n ih =>
    by_cases h' : n + 1 < 29
    · rw [stateAt_mid m c ⟨n + 1, h⟩ (Nat.succ_ne_zero n) h']; exact ih _
    · rw [stateAt_last m c ⟨n + 1, h⟩ (Nat.succ_ne_zero n) h']; exact ih _

variable (L : ℕ) (hL : L < 30522) (r : Fin 256) (hlab : labOf m c (ix2 (0 : Fin 1) r) = BitVec.ofNat 32 L)

include hX hB hL hlab in
/-- The state after a tile inside the vocabulary. -/
theorem tile_holds (t : Fin cfg0.N) (ht : t.val < 29) (s : Fin 8) (st : State Ideal) (hw : st.wide = widened (xOf m c))
    (h : Holds st (rowOf m c r) L s r t.val) :
    Holds (tileStep (pointWord t) (iblk m c 1 t) (iblk m c 2 t) (iblk m c 3 t) st) (rowOf m c r) L s r (t.val + 1) := by
  unfold tileStep
  rw [pointWord_eq, hw, block_lab]
  exact advance_holds (by omega) hL hlab (fun n hn k hk => tile_rows m c hX hB t n k hn hk s r (by have := s.isLt; omega)) h

include hX hB hL hlab in
/-- The state after the last tile. -/
theorem last_holds (t : Fin cfg0.N) (ht : t.val < 30) (s : Fin 8) (st : State Ideal) (hw : st.wide = widened (xOf m c))
    (h : Holds st (rowOf m c r) L s r t.val) :
    Holds (lastStep (pointWord t) (iblk m c 1 t) (iblk m c 2 t) (iblk m c 3 t) st) (rowOf m c r) L s r (t.val + 1) := by
  unfold lastStep
  rw [pointWord_eq, hw, block_lab]
  exact advance_holds ht hL hlab (fun n hn k hk => masked_apply ht hn hk _ (fun h => tile_rows m c hX hB t n k hn hk s r h) (rowOf_past m c r)) h

include hX hB hL hlab in
/-- The state after every tile. -/
theorem state_holds (n : ℕ) (h : n < cfg0.N) (s : Fin 8) : Holds (stateAt m c n h) (rowOf m c r) L s r (n + 1) := by
  have hN : cfg0.N = 30 := N_0
  induction n with
  | zero =>
    rw [stateAt_first m c ⟨0, h⟩ rfl, block_x]
    exact tile_holds m c hX hB L hL r hlab ⟨0, h⟩ (show 0 < 29 by decide) s _ rfl (fresh_holds _)
  | succ n ih =>
    have hn : n < cfg0.N := Nat.lt_of_succ_lt h
    by_cases h' : n + 1 < 29
    · rw [stateAt_mid m c ⟨n + 1, h⟩ (Nat.succ_ne_zero n) h']
      exact tile_holds m c hX hB L hL r hlab ⟨n + 1, h⟩ h' s _ (state_wide m c n hn) (ih hn)
    · rw [stateAt_last m c ⟨n + 1, h⟩ (Nat.succ_ne_zero n) h']
      exact last_holds m c hX hB L hL r hlab ⟨n + 1, h⟩ (show n + 1 < 30 by omega) s _ (state_wide m c n hn) (ih hn)

include hX hB hL hlab in
/-- The kernel's loss is the loss over the vocabulary. -/
theorem kernel_loss : lossOf (stateAt m c 29 tLast.isLt) (ix2 (0 : Fin 1) r) = loss (xOf m c) (codeArg m c) (byteArg m c) r L :=
  lossOf_apply (g := rowOf m c r) (fun s => state_holds m c hX hB L hL r hlab 29 tLast.isLt s) hL (rowOf_past m c r)

end Cert.KernelIdeal.Body

end
-- ==== Proof.RValue.lean ====
/- What the reference leaves in its three result arrays. -/
module

public import proofs.«01_k».proof.Proof.Gen.ReferenceIdeal.Frame
public import Idealize.ShloMosaic.Lib.Pipeline.Value

@[expose] public section

noncomputable section

namespace Cert.ReferenceIdeal.Results

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one point. -/
abbrev t₀ : Fin cfg0.N := ⟨0, by have : cfg0.N = 1 := N_0; omega⟩

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S1x256.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S256x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S256x32.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

theorem emb4 (y : S1x256.Idx) : ((cfg0.win 4).blk t₀).view.emb y = y := by
  have hi : win0_4.index t₀ = ![0, 0] := by decide +kernel
  have hb0 : (((cfg0.win 4).blk t₀).view.emb y 0).val = win0_4.index t₀ (0 : Fin 2) * 1 + 1 * (y 0).val := rfl
  have hb1 : (((cfg0.win 4).blk t₀).view.emb y 1).val = win0_4.index t₀ (1 : Fin 2) * 256 + 1 * (y 1).val := rfl
  have h0 : win0_4.index t₀ (0 : Fin 2) = 0 := by rw [hi]; rfl
  have h1 : win0_4.index t₀ (1 : Fin 2) = 0 := by rw [hi]; rfl
  funext a; apply Fin.ext
  match a with
  | ⟨0, _⟩ => rw [h0] at hb0; exact hb0.trans (show 0 * 1 + 1 * (y 0).val = (y 0).val by omega)
  | ⟨1, _⟩ => rw [h1] at hb1; exact hb1.trans (show 0 * 256 + 1 * (y 1).val = (y 1).val by omega)

theorem final_loss (c : Dev nD) : (dats m 0 c).arrAt 4 cfg0.N = out0_4 (iblk m c 0 t₀) (iblk m c 1 t₀) (iblk m c 2 t₀) (iblk m c 3 t₀) := by
  have h := blocks4 m c t₀ (by decide +kernel)
  rw [flushed4] at h
  funext y
  have h' := congrFun h y
  rw [View.read_apply] at h'
  rw [emb4] at h'
  exact h'

theorem emb5 (y : S256x1024.Idx) : ((cfg0.win 5).blk t₀).view.emb y = y := by
  have hi : win0_5.index t₀ = ![0, 0] := by decide +kernel
  have hb0 : (((cfg0.win 5).blk t₀).view.emb y 0).val = win0_5.index t₀ (0 : Fin 2) * 256 + 1 * (y 0).val := rfl
  have hb1 : (((cfg0.win 5).blk t₀).view.emb y 1).val = win0_5.index t₀ (1 : Fin 2) * 1024 + 1 * (y 1).val := rfl
  have h0 : win0_5.index t₀ (0 : Fin 2) = 0 := by rw [hi]; rfl
  have h1 : win0_5.index t₀ (1 : Fin 2) = 0 := by rw [hi]; rfl
  funext a; apply Fin.ext
  match a with
  | ⟨0, _⟩ => rw [h0] at hb0; exact hb0.trans (show 0 * 256 + 1 * (y 0).val = (y 0).val by omega)
  | ⟨1, _⟩ => rw [h1] at hb1; exact hb1.trans (show 0 * 1024 + 1 * (y 1).val = (y 1).val by omega)

theorem final_codes (c : Dev nD) : (dats m 0 c).arrAt 5 cfg0.N = out0_5 (iblk m c 0 t₀) (iblk m c 1 t₀) (iblk m c 2 t₀) (iblk m c 3 t₀) := by
  have h := blocks5 m c t₀ (by decide +kernel)
  rw [flushed5] at h
  funext y
  have h' := congrFun h y
  rw [View.read_apply] at h'
  rw [emb5] at h'
  exact h'

theorem emb6 (y : S256x32.Idx) : ((cfg0.win 6).blk t₀).view.emb y = y := by
  have hi : win0_6.index t₀ = ![0, 0] := by decide +kernel
  have hb0 : (((cfg0.win 6).blk t₀).view.emb y 0).val = win0_6.index t₀ (0 : Fin 2) * 256 + 1 * (y 0).val := rfl
  have hb1 : (((cfg0.win 6).blk t₀).view.emb y 1).val = win0_6.index t₀ (1 : Fin 2) * 32 + 1 * (y 1).val := rfl
  have h0 : win0_6.index t₀ (0 : Fin 2) = 0 := by rw [hi]; rfl
  have h1 : win0_6.index t₀ (1 : Fin 2) = 0 := by rw [hi]; rfl
  funext a; apply Fin.ext
  match a with
  | ⟨0, _⟩ => rw [h0] at hb0; exact hb0.trans (show 0 * 256 + 1 * (y 0).val = (y 0).val by omega)
  | ⟨1, _⟩ => rw [h1] at hb1; exact hb1.trans (show 0 * 32 + 1 * (y 1).val = (y 1).val by omega)

theorem final_bytes (c : Dev nD) : (dats m 0 c).arrAt 6 cfg0.N = out0_6 (iblk m c 0 t₀) (iblk m c 1 t₀) (iblk m c 2 t₀) (iblk m c 3 t₀) := by
  have h := blocks6 m c t₀ (by decide +kernel)
  rw [flushed6] at h
  funext y
  have h' := congrFun h y
  rw [View.read_apply] at h'
  rw [emb6] at h'
  exact h'

/-- The reference's run: its three results as functions of its arguments, which are unchanged. -/
theorem run_results : θ_run defs (onTc (τ := τ) (main (F := F))) ⟨m, fun _ => 0, ρ⟩ fun r => ∀ c : Dev nD,
      r.2.mem ((c : Thread nD τ).loc main_v2_0) = out0_4 (iblk m c 0 t₀) (iblk m c 1 t₀) (iblk m c 2 t₀) (iblk m c 3 t₀)
      ∧ r.2.mem ((c : Thread nD τ).loc main_v2_1) = out0_5 (iblk m c 0 t₀) (iblk m c 1 t₀) (iblk m c 2 t₀) (iblk m c 3 t₀)
      ∧ r.2.mem ((c : Thread nD τ).loc main_v2_2) = out0_6 (iblk m c 0 t₀) (iblk m c 1 t₀) (iblk m c 2 t₀) (iblk m c 3 t₀)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  have := h c
  rw [final_loss, final_codes, final_bytes] at this
  exact this

end Cert.ReferenceIdeal.Results

end
-- ==== Proof.RefQuant.lean ====
/- The reference's quantiser, element by element. -/
module

public import proofs.«01_k».proof.Proof.Spec
public import proofs.«01_k».proof.Proof.Gen.ReferenceIdeal.Skeleton

@[expose] public section

set_option maxRecDepth 16384

noncomputable section

namespace Cert.ReferenceIdeal.Results

open Cert.ReferenceIdeal Cert.ReferenceIdeal.Gen Cert.Spec Cert.Exponent
open Idealize.ShloMosaic

variable (X : Vec Ideal S256x1024 .bf16)

theorem pay1_apply (r : Fin 256) (b j : Fin 32) : k0_pay1 X (ix3 r b j) = X (ix2 r (col b j)) := by
  unfold k0_pay1
  show shapeCast S256x32x32 _ _ (ix3 r b j) = _
  rw [shapeCast_apply _ _ (ix3 r b j) (ix2 r (col b j)) (by rw [pos2, pos3]; show r.val * 1024 + (32 * b.val + j.val) = _; omega)]
  refine (widen (φ := .bf16) (ψ := .f32) _ bitsLt_bf16_f32 _).trans ?_
  rw [shapeCast_self]

theorem lift_last (h : S256x32x32.Reduces [2] S256x32) (r : Fin 256) (b j : Fin 32) : h.lift (ix2 r b) j = ix3 r b j := by
  funext a; match a with | ⟨0, _⟩ => rfl | ⟨1, _⟩ => rfl | ⟨2, _⟩ => rfl

theorem neg_inf : Ideal.ofBits .f32 0xFF800000#32 = ⊥ := by simp [Ideal.ofBits, Ideal.ieee]

theorem top_apply (r : Fin 256) (b : Fin 32) :
    mulf (multiReduction .maximumf [2] S256x32 (absf (k0_pay1 X)) 0xFF800000#32 reduces_S256x32x32_S256x32 (.inl rfl) rfl)
      (broadcast S256x32 (Scalar.ofBits .f32 0x3B124925#32)) (ix2 r b) = scaleTop X r b := by
  unfold scaleTop
  refine congrArg (· * Ideal.ofBits .f32 0x3B124925#32) ?_
  refine (Ideal.multiReduction_maximumf_single _ _ _ _ _ _).trans ?_
  refine (congrArg (fun z => Finset.fold max z _ _) neg_inf).trans ?_
  refine congrArg (fun f => Finset.fold max ⊥ f _) (funext fun j => ?_)
  show mag (k0_pay1 X _) = _
  exact congrArg mag ((congrArg (k0_pay1 X) (lift_last _ r b j)).trans (pay1_apply X r b j))

theorem one_bits : Ideal.ofBits .f32 0x3F800000#32 = 1 := by
  simp [Ideal.ofBits, Ideal.ieee]; rw [← EReal.coe_mul]; norm_num

theorem two_bits : Ideal.ofBits .f32 0x40000000#32 = ((2 : ℝ) : EReal) := by
  simp [Ideal.ofBits, Ideal.ieee]; rw [← EReal.coe_mul]; norm_num

theorem zero_bits : Ideal.ofBits .f32 0x00000000#32 = 0 := Ideal.ofBits_zero_f32

theorem least_bits : Ideal.ofBits .f32 0x00800000#32 = pow 1 := ofBits_pow 1 (by decide)

theorem exp2_sub_apply {s : Shape} (z v : FVec Ideal s .f32) (i : s.Idx) : exp2 (subf z v) i = Ideal.exp2 (z i - v i) := rfl

variable (hX : ∀ i, mag (X i) ≤ limit)

include hX

theorem pay2_apply (r : Fin 256) (b : Fin 32) : k0_pay2 X (ix2 r b) = ((ex X r b : ℝ) : EReal) := by
  have h := top_apply X r b
  have e := refExp_eq (scaleTop_nonneg X r b) (lt_of_lt_of_le (scaleTop_lt X hX r b) (pow_mono (by decide) (by decide)))
  refine Eq.trans ?_ e
  unfold k0_pay2
  generalize hT : mulf (multiReduction .maximumf [2] S256x32 (absf (k0_pay1 X)) 0xFF800000#32 reduces_S256x32x32_S256x32 (.inl rfl) rfl)
      (broadcast S256x32 (Scalar.ofBits .f32 0x3B124925#32)) = T at h ⊢
  rw [← h, refExp, ← least_bits, ← two_bits]
  show Scalar.select (BitVec.ofBool (decide (T (ix2 r b) < Ideal.ofBits .f32 0x00800000#32))) (Ideal.ofBits .f32 0x00000000#32)
    (Ideal.liftRound Int.floor (Ideal.div (Ideal.log (T (ix2 r b))) (Ideal.log (Ideal.ofBits .f32 0x40000000#32))) + Ideal.ofBits .f32 0x3F800000#32) = _
  rw [one_bits, zero_bits]
  by_cases hc : T (ix2 r b) < Ideal.ofBits .f32 0x00800000#32
  · rw [if_pos hc, decide_eq_true hc]; rfl
  · rw [if_neg hc, decide_eq_false hc]; rfl

theorem broadcast_last {φ : FTy} (v : FVec Ideal S256x32 φ) (r : Fin 256) (b j : Fin 32) :
    broadcastTo S256x32x32 (shapeCast S256x32x1 v shapeCasts_S256x32_S256x32x1) broadcasts_S256x32x1_S256x32x32 (ix3 r b j) = v (ix2 r b) := by
  clear hX
  rw [broadcastTo_apply _ _ (ix3 r b j) (ix3 r b (0 : Fin 1)) (fun a => by match a with | ⟨0, _⟩ => rfl | ⟨1, _⟩ => rfl | ⟨2, _⟩ => rfl)]
  exact shapeCast_apply _ _ (ix3 r b (0 : Fin 1)) (ix2 r b) (by rw [pos2, pos3]; show _ = (r.val * 32 + b.val) * 1 + 0; omega)

theorem pay3_apply (r : Fin 256) (b j : Fin 32) : k0_pay3 X (ix3 r b j) = code X r (col b j) := by
  have h : mulf (k0_pay1 X) (broadcastTo S256x32x32 (shapeCast S256x32x1
      (exp2 (subf (broadcast S256x32 (Scalar.ofBits .f32 0x00000000#32)) (k0_pay2 X))) shapeCasts_S256x32_S256x32x1)
      broadcasts_S256x32x1_S256x32x32) (ix3 r b j) = X (ix2 r (col b j)) * two (-ex X r b) := by
    show k0_pay1 X (ix3 r b j) * broadcastTo S256x32x32 _ _ (ix3 r b j) = _
    rw [pay1_apply, broadcast_last X hX]
    rw [exp2_sub_apply, pay2_apply X hX]
    refine congrArg (X (ix2 r (col b j)) * ·) ?_
    refine congrArg Ideal.exp2 ?_
    refine (congrArg (· - ((ex X r b : ℝ) : EReal)) zero_bits).trans ?_
    rw [zero_sub, Int.cast_neg, EReal.coe_neg]
  unfold code
  rw [blk_col, ← h]
  rfl

/-- The codes. -/
theorem pay5_apply (r : Fin 256) (k : Fin 1024) : k0_pay5 X (ix2 r k) = code X r k := by
  unfold k0_pay5
  show shapeCast S256x1024 _ _ (ix2 r k) = _
  rw [shapeCast_apply _ _ (ix2 r k) (ix3 r (blk k) (plc k))
      (by rw [pos2, pos3]; show (r.val * 32 + k.val / 32) * 32 + k.val % 32 = r.val * 1024 + k.val; omega),
    pay3_apply X hX, col_blk]

theorem pay6_apply (r : Fin 256) (b j : Fin 32) : k0_pay6 X (ix3 r b j) = code X r (col b j) := by
  unfold k0_pay6
  refine (widen (φ := .fp8e4m3) (ψ := .bf16) _ bitsLt_fp8e4m3_bf16 _).trans ?_
  rw [shapeCast_apply _ _ (ix3 r b j) (ix2 r (col b j)) (by rw [pos2, pos3]; show r.val * 1024 + (32 * b.val + j.val) = _; omega)]
  exact pay5_apply X hX r (col b j)

theorem toInt_word (e : ℤ) (h1 : -125 ≤ e) (h2 : e ≤ 126) : Ideal.fptosi 32 ((e : ℝ) : EReal) = BitVec.ofInt 32 e := by
  clear hX
  rw [Ideal.fptosi, Ideal.toIntClamped_coe, Int.floor_intCast, Int.ceil_intCast, ite_self]
  refine congrArg _ ?_
  norm_num
  omega

/-- The scale bytes. -/
theorem pay4_apply (r : Fin 256) (b : Fin 32) : k0_pay4 X (ix2 r b) = (BitVec.ofInt 32 (ex X r b) + 127#32).setWidth 8 := by
  have hb := ex_bounds X hX r b
  unfold k0_pay4
  show (Ideal.fptosi 32 (k0_pay2 X (ix2 r b)) + 127#32).setWidth 8 = _
  rw [pay2_apply X hX, toInt_word X hX _ hb.1 hb.2]

theorem byte_back (e : ℤ) (h1 : -125 ≤ e) (h2 : e ≤ 126) :
    ((((BitVec.ofInt 32 e + 127#32).setWidth 8).setWidth 32 - 127#32).toInt : ℤ) = e := by
  clear hX
  have key : ∀ n : Fin 252, ((((BitVec.ofInt 32 ((n.val : ℤ) - 125) + 127#32).setWidth 8).setWidth 32 - 127#32).toInt : ℤ) = (n.val : ℤ) - 125 := by
    decide +kernel
  have := key ⟨(e + 125).toNat, by omega⟩
  have h : (((e + 125).toNat : ℕ) : ℤ) - 125 = e := by omega
  simpa only [h] using this

/-- The scale, from its byte. -/
theorem pay7_apply (r : Fin 256) (b : Fin 32) : (k0_pay7 X (ix2 r b) - 127#32).toInt = ex X r b := by
  have hb := ex_bounds X hX r b
  show ((k0_pay4 X (ix2 r b)).setWidth 32 - 127#32).toInt = _
  rw [pay4_apply X hX]
  exact byte_back X hX _ hb.1 hb.2

end Cert.ReferenceIdeal.Results

end

end
-- ==== Proof.RefLoss.lean ====
/- The reference's loss, element by element. -/
module

public import proofs.«01_k».proof.Proof.RefQuant

@[expose] public section

set_option maxRecDepth 16384

noncomputable section

namespace Cert.ReferenceIdeal.Results

open Cert.ReferenceIdeal Cert.ReferenceIdeal.Gen Cert.Spec Cert.Exponent
open Idealize.ShloMosaic

variable (X : Vec Ideal S256x1024 .bf16) (Q : Vec Ideal S30522x1024 .fp8e4m3) (B : Vec Ideal S30522x32 .i8) (lab : Vec Ideal S256x1 .i32)

/-- The reference's widened inputs. -/
def refWide : FVec Ideal S256x1024 .bf16 :=
  shapeCast S256x1024 (mulf (k0_pay6 X) (broadcastTo S256x32x32 (shapeCast S256x32x1 (truncf .bf16
    (exp2 (sitofp .f32 (subi (k0_pay7 X) (broadcast S256x32 127#32)))) bitsLt_bf16_f32) shapeCasts_S256x32_S256x32x1)
    broadcasts_S256x32x1_S256x32x32)) shapeCasts_S256x32x32_S256x1024

/-- The reference's widened weights. -/
def refW : FVec Ideal S30522x1024 .bf16 :=
  shapeCast S30522x1024 (mulf (extf .bf16 (shapeCast S30522x32x32 Q shapeCasts_S30522x1024_S30522x32x32) bitsLt_fp8e4m3_bf16)
    (broadcastTo S30522x32x32 (shapeCast S30522x32x1 (truncf .bf16
      (exp2 (sitofp .f32 (subi (extui 32 B natLt_8_32) (broadcast S30522x32 127#32)))) bitsLt_bf16_f32) shapeCasts_S30522x32_S30522x32x1)
      broadcasts_S30522x32x1_S30522x32x32)) shapeCasts_S30522x32x32_S30522x1024

/-- The reference's logits. -/
def refLogits : FVec Ideal S256x30522 .f32 :=
  matmul dot_S256x1024_S30522x1024_S256x30522_1_1_0_0_n_n none (refWide X) (refW Q B) (constant S256x30522 .f32 0x00000000#32)

/-- The row maxima of the logits `z`. -/
def refMax (z : FVec Ideal S256x30522 .f32) : FVec Ideal S256x1 .f32 :=
  shapeCast S256x1 (multiReduction .maximumf [1] S256 z 0xFF800000#32 reduces_S256x30522_S256 (.inl rfl) rfl) shapeCasts_S256_S256x1

/-- The row sums of `z`. -/
def refSum (z : FVec Ideal S256x30522 .f32) : FVec Ideal S256x1 .f32 :=
  shapeCast S256x1 (multiReduction .add [1] S256 z 0x00000000#32 reduces_S256x30522_S256 (.inl rfl) rfl) shapeCasts_S256_S256x1

/-- The loss made from the logits. -/
def refLoss (z : FVec Ideal S256x30522 .f32) : FVec Ideal S1x256 .f32 :=
  transpose S1x256 [1, 0] (subf (subf (addf (refMax z) (log (refSum (exp (subf z (broadcastTo S256x30522 (refMax z) broadcasts_S256x1_S256x30522))))))
    (refSum (select (cmpi .eq (iota .tc S256x30522 32 [1] iota_S256x30522_d1_w32)
      (broadcastTo S256x30522 (shapeCast S256x1 lab shapeCasts_S256x1_S256x1) broadcasts_S256x1_S256x30522)) z
      (broadcast S256x30522 (Scalar.ofBits .f32 0x00000000#32)))))
    (broadcast S256x1 (Scalar.ofBits .f32 0x41253821#32))) transposes_S256x1_p1_0_S1x256

theorem pay8_eq : k0_pay8 (k0_pay6 X) (k0_pay7 X) 127#32 Q B lab = refLoss lab (refLogits X Q B) := rfl

theorem exp2_word {s : Shape} (v : IVec s 32) (i : s.Idx) : exp2 (sitofp (F := Ideal) .f32 v) i = two ((v i).toInt) := rfl

theorem word_byte (w : BitVec 8) : (w.setWidth 32 - 127#32).toInt = (w.toNat : ℤ) - 127 := by
  have key : ∀ n : Fin 256, (((BitVec.ofNat 8 n.val).setWidth 32 - 127#32).toInt : ℤ) = (n.val : ℤ) - 127 := by decide +kernel
  have := key ⟨w.toNat, w.isLt⟩
  rwa [BitVec.ofNat_toNat, BitVec.setWidth_eq] at this

theorem refW_apply (v : Fin 30522) (k : Fin 1024) : refW Q B (ix2 v k) = wideW Q B v k := by
  unfold refW
  rw [shapeCast_apply _ _ (ix2 v k) (ix3 v (blk k) (plc k))
      (by rw [pos2, pos3]; show (v.val * 32 + k.val / 32) * 32 + k.val % 32 = v.val * 1024 + k.val; omega)]
  have e1 : shapeCast S30522x32x32 Q shapeCasts_S30522x1024_S30522x32x32 (ix3 v (blk k) (plc k)) = Q (ix2 v k) :=
    shapeCast_apply _ _ _ _ (by rw [pos2, pos3]; show v.val * 1024 + k.val = (v.val * 32 + k.val / 32) * 32 + k.val % 32; omega)
  have e2 : ∀ u : FVec Ideal S30522x32 .bf16, broadcastTo S30522x32x32 (shapeCast S30522x32x1 u shapeCasts_S30522x32_S30522x32x1)
      broadcasts_S30522x32x1_S30522x32x32 (ix3 v (blk k) (plc k)) = u (ix2 v (blk k)) := fun u => by
    rw [broadcastTo_apply _ _ (ix3 v (blk k) (plc k)) (ix3 v (blk k) (0 : Fin 1))
      (fun a => by match a with | ⟨0, _⟩ => rfl | ⟨1, _⟩ => rfl | ⟨2, _⟩ => rfl)]
    exact shapeCast_apply _ _ (ix3 v (blk k) (0 : Fin 1)) (ix2 v (blk k)) (by rw [pos2, pos3]; show _ = (v.val * 32 + (blk k).val) * 1 + 0; omega)
  unfold wideW
  refine congrArg₂ (fun x y : EReal => x * y) e1 ((e2 _).trans ?_)
  refine (narrow (φ := .f32) (ψ := .bf16) _ bitsLt_bf16_f32 _).trans ?_
  rw [exp2_word]
  exact congrArg two (word_byte (B (ix2 v (blk k))))

variable (hX : ∀ i, mag (X i) ≤ limit)

include hX in
theorem refWide_apply (r : Fin 256) (k : Fin 1024) : refWide X (ix2 r k) = wide X r k := by
  unfold refWide
  rw [shapeCast_apply _ _ (ix2 r k) (ix3 r (blk k) (plc k))
      (by rw [pos2, pos3]; show (r.val * 32 + k.val / 32) * 32 + k.val % 32 = r.val * 1024 + k.val; omega)]
  unfold wide
  refine congrArg₂ (fun x y : EReal => x * y) ((pay6_apply X hX _ _ _).trans (by rw [col_blk])) ((broadcast_last X hX _ _ _ _).trans ?_)
  refine (narrow (φ := .f32) (ψ := .bf16) _ bitsLt_bf16_f32 _).trans ?_
  rw [exp2_word]
  exact congrArg two (pay7_apply X hX r (blk k))

include hX in
theorem refLogits_apply (r : Fin 256) (v : Fin 30522) : refLogits X Q B (ix2 r v) = logit X Q B r v := by
  refine (Ideal.matmul_transposedRhs_apply (M := 256) (K := 1024) (N := 30522) none (refWide X) (refW Q B)
    (constant S256x30522 .f32 0x00000000#32) r v).trans ?_
  refine (congrArg (· + _) Ideal.ofBits_zero_f32).trans ((zero_add _).trans (Finset.sum_congr rfl fun k _ => ?_))
  refine (congrArg₂ (fun x y : EReal => x * y) (congrArg (refWide X) (vix r k)) (congrArg (refW Q B) (vix v k))).trans ?_
  exact congrArg₂ (fun x y : EReal => x * y) (refWide_apply X hX r k) (refW_apply Q B v k)

/-! ## The loss -/

theorem lift_rows (h : S256x30522.Reduces [1] S256) (r : Fin 256) (v : Fin 30522) : h.lift (ix1 r) v = ix2 r v := by
  funext a; match a with | ⟨0, _⟩ => rfl | ⟨1, _⟩ => rfl

theorem column (v : FVec Ideal S256 .f32) (r : Fin 256) : shapeCast S256x1 v shapeCasts_S256_S256x1 (ix2 r (0 : Fin 1)) = v (ix1 r) :=
  shapeCast_apply _ _ _ _ (by rw [pos1, pos2]; show r.val = r.val * 1 + 0; omega)

theorem fold_top (g : ℕ → EReal) (n : ℕ) : (Finset.univ : Finset (Fin n)).fold max ⊥ (fun i => g i.val) = Online.top g n := by
  refine le_antisymm ((Finset.fold_max_le _).mpr ⟨bot_le, fun i _ => ?_⟩) (Finset.sup_le fun q hq => ?_)
  · exact Finset.le_sup (f := g) (Finset.mem_range.mpr i.isLt)
  · exact (Finset.le_fold_max _).mpr (Or.inr ⟨⟨q, Finset.mem_range.mp hq⟩, Finset.mem_univ _, le_rfl⟩)

theorem refMax_apply (z : FVec Ideal S256x30522 .f32) (r : Fin 256) (g : ℕ → EReal) (hz : ∀ v : Fin 30522, z (ix2 r v) = g v.val) :
    refMax z (ix2 r (0 : Fin 1)) = Online.top g 30522 := by
  unfold refMax
  rw [column]
  refine (Ideal.multiReduction_maximumf_single _ _ _ _ _ _).trans ?_
  refine (congrArg (fun z => Finset.fold max z _ _) neg_inf).trans ?_
  refine (congrArg (fun f => Finset.fold max ⊥ f _) (funext fun v => (congrArg z (lift_rows _ r v)).trans (hz v))).trans ?_
  exact fold_top g 30522

theorem refSum_apply (z : FVec Ideal S256x30522 .f32) (r : Fin 256) (g : ℕ → EReal) (hz : ∀ v : Fin 30522, z (ix2 r v) = g v.val) :
    refSum z (ix2 r (0 : Fin 1)) = ∑ q ∈ Finset.range 30522, g q := by
  unfold refSum
  rw [column]
  refine (Ideal.multiReduction_add_single _ _ _ _ _ _).trans ?_
  exact (Finset.sum_congr rfl fun v _ => (congrArg z (lift_rows _ r v)).trans (hz v)).trans (Fin.sum_univ_eq_sum_range g 30522)

theorem word_eq (v L : ℕ) (hv : v < 30522) (hL : L < 30522) : (BitVec.ofNat 32 v == BitVec.ofNat 32 L) = decide (v = L) := by
  by_cases h : v = L
  · rw [decide_eq_true h, beq_iff_eq, h]
  · rw [decide_eq_false h, beq_eq_false_iff_ne]
    intro h'
    have h3 := congrArg BitVec.toNat h'
    rw [BitVec.toNat_ofNat, BitVec.toNat_ofNat] at h3
    omega

theorem combine (a b c : FVec Ideal S256x1 .f32) (w : BitVec 32) (i : S256x1.Idx) :
    subf (subf (addf a (log b)) c) (broadcast S256x1 (Scalar.ofBits .f32 w)) i = a i + Ideal.log (b i) - c i - Ideal.ofBits .f32 w := rfl

theorem refLoss_apply (z : FVec Ideal S256x30522 .f32) (r : Fin 256) (g : ℕ → EReal) (hz : ∀ v : Fin 30522, z (ix2 r v) = g v.val)
    (L : ℕ) (hL : L < 30522) (hlab : lab (ix2 r (0 : Fin 1)) = BitVec.ofNat 32 L) :
    refLoss lab z (ix2 (0 : Fin 1) r)
      = Online.top g 30522 + Ideal.log (Online.tot g 30522 (Online.top g 30522)) - g L - Ideal.ofBits .f32 0x41253821#32 := by
  have hM := refMax_apply z r g hz
  have hS := refSum_apply (exp (subf z (broadcastTo S256x30522 (refMax z) broadcasts_S256x1_S256x30522))) r
    (fun q => Ideal.exp (g q - Online.top g 30522)) (fun v => by
      have e : broadcastTo S256x30522 (refMax z) broadcasts_S256x1_S256x30522 (ix2 r v) = Online.top g 30522 := by
        rw [broadcastTo_apply _ _ (ix2 r v) (ix2 r (0 : Fin 1)) (fun a => by match a with | ⟨0, _⟩ => rfl | ⟨1, _⟩ => rfl)]
        exact hM
      show Ideal.exp (z (ix2 r v) - broadcastTo S256x30522 (refMax z) broadcasts_S256x1_S256x30522 (ix2 r v)) = _
      rw [e, hz v])
  have hLab := refSum_apply (select (cmpi .eq (iota .tc S256x30522 32 [1] iota_S256x30522_d1_w32)
      (broadcastTo S256x30522 (shapeCast S256x1 lab shapeCasts_S256x1_S256x1) broadcasts_S256x1_S256x30522)) z
      (broadcast S256x30522 (Scalar.ofBits .f32 0x00000000#32))) r (fun q => if q = L then g q else 0) (fun v => by
      have e : broadcastTo S256x30522 (shapeCast S256x1 lab shapeCasts_S256x1_S256x1) broadcasts_S256x1_S256x30522 (ix2 r v) = BitVec.ofNat 32 L := by
        rw [broadcastTo_apply _ _ (ix2 r v) (ix2 r (0 : Fin 1)) (fun a => by match a with | ⟨0, _⟩ => rfl | ⟨1, _⟩ => rfl), shapeCast_self]
        exact hlab
      have i : iota .tc S256x30522 32 [1] iota_S256x30522_d1_w32 (ix2 r v) = BitVec.ofNat 32 v.val := iota_single_apply _ _ _ _ _ _
      show Scalar.select (BitVec.ofBool (iota .tc S256x30522 32 [1] iota_S256x30522_d1_w32 (ix2 r v)
        == broadcastTo S256x30522 (shapeCast S256x1 lab shapeCasts_S256x1_S256x1) broadcasts_S256x1_S256x30522 (ix2 r v)))
        (z (ix2 r v)) (Ideal.ofBits .f32 0x00000000#32) = _
      rw [e, i, word_eq _ _ v.isLt hL, hz v, zero_bits]
      by_cases h : v.val = L
      · rw [decide_eq_true h, if_pos h]; rfl
      · rw [decide_eq_false h, if_neg h]; rfl)
  rw [Finset.sum_ite_eq' (Finset.range 30522) L g, if_pos (Finset.mem_range.mpr hL)] at hLab
  have hS : refSum (exp (subf z (broadcastTo S256x30522 (refMax z) broadcasts_S256x1_S256x30522))) (ix2 r (0 : Fin 1))
      = Online.tot g 30522 (Online.top g 30522) := hS
  unfold refLoss
  rw [swap, combine, hM, hS, hLab]

end Cert.ReferenceIdeal.Results

end

end
-- ==== Proof.RefBlocks.lean ====
/- The reference's results in terms of its arguments: the blocks that its one point reads are the whole arrays. -/
module

public import proofs.«01_k».proof.Proof.RValue
public import proofs.«01_k».proof.Proof.RefLoss

@[expose] public section

set_option maxRecDepth 16384

noncomputable section

namespace Cert.ReferenceIdeal.Results

open Cert.ReferenceIdeal Cert.ReferenceIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

/-- The inputs in rows. -/
def xArg : Vec Ideal S256x1024 .bf16 := shapeCast S256x1024 (m ((c : Thread nD τ).loc main_arg0)) shapeCasts_S2x128x1024_S256x1024

/-- The labels in one column. -/
def labArg : Vec Ideal S256x1 .i32 := shapeCast S256x1 (m ((c : Thread nD τ).loc main_arg3)) shapeCasts_S2x128_S256x1

/-- The weight codes. -/
def codeArg : Vec Ideal S30522x1024 .fp8e4m3 := m ((c : Thread nD τ).loc main_arg1)

/-- The weight scale bytes. -/
def byteArg : Vec Ideal S30522x32 .i8 := m ((c : Thread nD τ).loc main_arg2)

theorem V_x : V m c main_v0 = xArg m c := by
  show StableHlo.after hostOps0 _ _ = _
  after_results
  rfl

theorem V_lab : V m c main_v1 = labArg m c := by
  show StableHlo.after hostOps0 _ _ = _
  after_results
  rfl

theorem block_x : iblk m c 0 t₀ = xArg m c := by
  refine Eq.trans ?_ (V_x m c)
  funext y
  show V m c main_v0 (((cfg0.win 0).blk t₀).view.emb y) = _
  congr 1
  have hi : win0_0.index t₀ = ![0, 0] := by decide +kernel
  have hb0 : (((cfg0.win 0).blk t₀).view.emb y 0).val = win0_0.index t₀ (0 : Fin 2) * 256 + 1 * (y 0).val := rfl
  have hb1 : (((cfg0.win 0).blk t₀).view.emb y 1).val = win0_0.index t₀ (1 : Fin 2) * 1024 + 1 * (y 1).val := rfl
  have h0 : win0_0.index t₀ (0 : Fin 2) = 0 := by rw [hi]; rfl
  have h1 : win0_0.index t₀ (1 : Fin 2) = 0 := by rw [hi]; rfl
  rw [h0] at hb0
  rw [h1] at hb1
  funext a; apply Fin.ext
  match a with
  | ⟨0, _⟩ => exact hb0.trans (show 0 * 256 + 1 * (y 0).val = (y 0).val by omega)
  | ⟨1, _⟩ => exact hb1.trans (show 0 * 1024 + 1 * (y 1).val = (y 1).val by omega)

theorem block_codes : iblk m c 1 t₀ = codeArg m c := by
  refine Eq.trans ?_ (V_main_arg1 m c)
  funext y
  show V m c main_arg1 (((cfg0.win 1).blk t₀).view.emb y) = _
  congr 1
  have hi : win0_1.index t₀ = ![0, 0] := by decide +kernel
  have hb0 : (((cfg0.win 1).blk t₀).view.emb y 0).val = win0_1.index t₀ (0 : Fin 2) * 30522 + 1 * (y 0).val := rfl
  have hb1 : (((cfg0.win 1).blk t₀).view.emb y 1).val = win0_1.index t₀ (1 : Fin 2) * 1024 + 1 * (y 1).val := rfl
  have h0 : win0_1.index t₀ (0 : Fin 2) = 0 := by rw [hi]; rfl
  have h1 : win0_1.index t₀ (1 : Fin 2) = 0 := by rw [hi]; rfl
  rw [h0] at hb0
  rw [h1] at hb1
  funext a; apply Fin.ext
  match a with
  | ⟨0, _⟩ => exact hb0.trans (show 0 * 30522 + 1 * (y 0).val = (y 0).val by omega)
  | ⟨1, _⟩ => exact hb1.trans (show 0 * 1024 + 1 * (y 1).val = (y 1).val by omega)

theorem block_bytes : iblk m c 2 t₀ = byteArg m c := by
  refine Eq.trans ?_ (V_main_arg2 m c)
  funext y
  show V m c main_arg2 (((cfg0.win 2).blk t₀).view.emb y) = _
  congr 1
  have hi : win0_2.index t₀ = ![0, 0] := by decide +kernel
  have hb0 : (((cfg0.win 2).blk t₀).view.emb y 0).val = win0_2.index t₀ (0 : Fin 2) * 30522 + 1 * (y 0).val := rfl
  have hb1 : (((cfg0.win 2).blk t₀).view.emb y 1).val = win0_2.index t₀ (1 : Fin 2) * 32 + 1 * (y 1).val := rfl
  have h0 : win0_2.index t₀ (0 : Fin 2) = 0 := by rw [hi]; rfl
  have h1 : win0_2.index t₀ (1 : Fin 2) = 0 := by rw [hi]; rfl
  rw [h0] at hb0
  rw [h1] at hb1
  funext a; apply Fin.ext
  match a with
  | ⟨0, _⟩ => exact hb0.trans (show 0 * 30522 + 1 * (y 0).val = (y 0).val by omega)
  | ⟨1, _⟩ => exact hb1.trans (show 0 * 32 + 1 * (y 1).val = (y 1).val by omega)

theorem block_lab : iblk m c 3 t₀ = labArg m c := by
  refine Eq.trans ?_ (V_lab m c)
  funext y
  show V m c main_v1 (((cfg0.win 3).blk t₀).view.emb y) = _
  congr 1
  have hi : win0_3.index t₀ = ![0, 0] := by decide +kernel
  have hb0 : (((cfg0.win 3).blk t₀).view.emb y 0).val = win0_3.index t₀ (0 : Fin 2) * 256 + 1 * (y 0).val := rfl
  have hb1 : (((cfg0.win 3).blk t₀).view.emb y 1).val = win0_3.index t₀ (1 : Fin 2) * 1 + 1 * (y 1).val := rfl
  have h0 : win0_3.index t₀ (0 : Fin 2) = 0 := by rw [hi]; rfl
  have h1 : win0_3.index t₀ (1 : Fin 2) = 0 := by rw [hi]; rfl
  rw [h0] at hb0
  rw [h1] at hb1
  funext a; apply Fin.ext
  match a with
  | ⟨0, _⟩ => exact hb0.trans (show 0 * 256 + 1 * (y 0).val = (y 0).val by omega)
  | ⟨1, _⟩ => exact hb1.trans (show 0 * 1 + 1 * (y 1).val = (y 1).val by omega)

theorem zeros : (![0, 0] : Fin 2 → ℕ) = fun _ => 0 := by funext a; match a with | ⟨0, _⟩ => rfl | ⟨1, _⟩ => rfl

theorem out4_eq (x0 : Vec Ideal S256x1024 .bf16) (x1 : Vec Ideal S30522x1024 .fp8e4m3) (x2 : Vec Ideal S30522x32 .i8) (x3 : Vec Ideal S256x1 .i32) :
    out0_4 x0 x1 x2 x3 = refLoss x3 (refLogits x0 x1 x2) := by
  unfold out0_4
  refine (View.canon_unit_zero zeros _ _).trans ?_
  rw [View.ld_unit_zero zeros, View.ld_unit_zero zeros, View.ld_unit_zero zeros, View.ld_unit_zero zeros]
  exact pay8_eq x0 x1 x2 x3

theorem out5_eq (x0 : Vec Ideal S256x1024 .bf16) (x1 : Vec Ideal S30522x1024 .fp8e4m3) (x2 : Vec Ideal S30522x32 .i8) (x3 : Vec Ideal S256x1 .i32) :
    out0_5 x0 x1 x2 x3 = k0_pay5 x0 := by
  unfold out0_5
  refine (View.canon_unit_zero zeros _ _).trans ?_
  rw [View.ld_unit_zero zeros]

theorem out6_eq (x0 : Vec Ideal S256x1024 .bf16) (x1 : Vec Ideal S30522x1024 .fp8e4m3) (x2 : Vec Ideal S30522x32 .i8) (x3 : Vec Ideal S256x1 .i32) :
    out0_6 x0 x1 x2 x3 = k0_pay4 x0 := by
  unfold out0_6
  refine (View.canon_unit_zero zeros _ _).trans ?_
  rw [View.ld_unit_zero zeros]

/-- The reference's run, its results written over its arguments. -/
theorem run_args : θ_run defs (onTc (τ := τ) (main (F := Ideal))) ⟨m, fun _ => 0, ρ⟩ fun r => ∀ c : Dev nD,
      r.2.mem ((c : Thread nD τ).loc main_v2_0) = refLoss (labArg m c) (refLogits (xArg m c) (codeArg m c) (byteArg m c))
      ∧ r.2.mem ((c : Thread nD τ).loc main_v2_1) = k0_pay5 (xArg m c)
      ∧ r.2.mem ((c : Thread nD τ).loc main_v2_2) = k0_pay4 (xArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_results m ρ)
  have h' := h c
  rw [out4_eq, out5_eq, out6_eq, block_x, block_codes, block_bytes, block_lab] at h'
  exact h'

variable (hX : ∀ i, mag (xArg m c i) ≤ limit)

include hX in
/-- The reference's loss is the loss over the vocabulary. -/
theorem reference_loss (r : Fin 256) (L : ℕ) (hL : L < 30522) (hlab : labArg m c (ix2 r (0 : Fin 1)) = BitVec.ofNat 32 L) :
    refLoss (labArg m c) (refLogits (xArg m c) (codeArg m c) (byteArg m c)) (ix2 (0 : Fin 1) r)
      = loss (xArg m c) (codeArg m c) (byteArg m c) r L :=
  refLoss_apply (labArg m c) _ r (row (xArg m c) (codeArg m c) (byteArg m c) r)
    (fun v => (refLogits_apply (xArg m c) (codeArg m c) (byteArg m c) hX r v).trans (Eq.symm (dif_pos v.isLt))) L hL hlab

end Cert.ReferenceIdeal.Results

end
-- ==== Proof.Algebraic.lean ====
/- The two programs' results are equal: each is the same formula in the arguments. -/
module

public import proofs.«01_k».proof.Defs
public import proofs.«01_k».proof.Proof.Sound
public import proofs.«01_k».proof.Proof.Vocabulary
public import proofs.«01_k».proof.Proof.RefBlocks

@[expose] public section

set_option maxRecDepth 16384

noncomputable section

namespace Cert.Algebraic

open Cert.Spec Idealize.ShloMosaic Idealize.ShloMosaic.TcCoe Idealize.SL.Sem

/-- The shape conditions of the precondition. -/
theorem soundFacts : Cert.Pre_sound.Facts where
  bitsLt_bf16_f32 := by decide
  bcast_S_S2x128x1024 := by decide
  reducesTo_S2x128x1024_S_d0_1_2 := by decide
  h_S_ := by decide
  bcast_S_S30522x32 := by decide
  reducesTo_S30522x32_S_d0_1 := by decide
  bcast_S_S2x128 := by decide
  reducesTo_S2x128_S_d0_1 := by decide

/-- An array of two rows of 128, read as one row. -/
theorem flat_row {α : Type} (x : (⟨2, ![2, 128]⟩ : Shape).Idx → α) (h : (⟨2, ![2, 128]⟩ : Shape).ShapeCasts ⟨2, ![1, 256]⟩) (r : Fin 256) :
    shapeCast ⟨2, ![1, 256]⟩ x h (ix2 (0 : Fin 1) r) = x (ix2 (⟨r.val / 128, by omega⟩ : Fin 2) (⟨r.val % 128, by omega⟩ : Fin 128)) :=
  shapeCast_apply _ _ _ _ (by rw [pos2, pos2]; show r.val / 128 * 128 + r.val % 128 = 0 * 256 + r.val; omega)

/-- An array of two rows of 128, read as one column. -/
theorem flat_col {α : Type} (x : (⟨2, ![2, 128]⟩ : Shape).Idx → α) (h : (⟨2, ![2, 128]⟩ : Shape).ShapeCasts ⟨2, ![256, 1]⟩) (r : Fin 256) :
    shapeCast ⟨2, ![256, 1]⟩ x h (ix2 r (0 : Fin 1)) = x (ix2 (⟨r.val / 128, by omega⟩ : Fin 2) (⟨r.val % 128, by omega⟩ : Fin 128)) :=
  shapeCast_apply _ _ _ _ (by rw [pos2, pos2]; show r.val / 128 * 128 + r.val % 128 = r.val * 1 + 0; omega)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Input `r`'s label, as a number. -/
def labelOf (r : Fin 256) : ℕ :=
  (m ((c.tc : Thread Cert.KernelIdeal.nD Cert.KernelIdeal.τ).loc Cert.KernelIdeal.main_arg3)
    (ix2 (⟨r.val / 128, by omega⟩ : Fin 2) (⟨r.val % 128, by omega⟩ : Fin 128)) : BitVec 32).toNat

theorem label_word (r : Fin 256) :
    (m ((c.tc : Thread Cert.KernelIdeal.nD Cert.KernelIdeal.τ).loc Cert.KernelIdeal.main_arg3)
      (ix2 (⟨r.val / 128, by omega⟩ : Fin 2) (⟨r.val % 128, by omega⟩ : Fin 128)) : BitVec 32) = BitVec.ofNat 32 (labelOf m c r) :=
  ((BitVec.ofNat_toNat _ _).trans (BitVec.setWidth_eq _)).symm

theorem kernel_label (r : Fin 256) : Cert.KernelIdeal.Body.labOf m c (ix2 (0 : Fin 1) r) = BitVec.ofNat 32 (labelOf m c r) := by
  rw [← label_word]
  exact flat_row _ _ r

section

variable (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3))

include h0 in
theorem same_x : Cert.ReferenceIdeal.Results.xArg m' c = Cert.KernelIdeal.Body.xOf m c := by
  unfold Cert.ReferenceIdeal.Results.xArg; rw [h0]; rfl

include h1 in
theorem same_codes : Cert.ReferenceIdeal.Results.codeArg m' c = Cert.KernelIdeal.Body.codeArg m c := h1

include h2 in
theorem same_bytes : Cert.ReferenceIdeal.Results.byteArg m' c = Cert.KernelIdeal.Body.byteArg m c := h2

include h3 in
theorem reference_label (r : Fin 256) : Cert.ReferenceIdeal.Results.labArg m' c (ix2 r (0 : Fin 1)) = BitVec.ofNat 32 (labelOf m c r) := by
  rw [← label_word]
  unfold Cert.ReferenceIdeal.Results.labArg
  rw [h3]
  exact flat_col _ _ r

variable (hX : ∀ i, mag (Cert.KernelIdeal.Body.xOf m c i) ≤ limit)

include h0 hX in
/-- The codes are equal. -/
theorem codes_eq : Cert.ReferenceIdeal.Gen.k0_pay5 (F := Ideal) (Cert.ReferenceIdeal.Results.xArg m' c)
    = Cert.KernelIdeal.Body.codesOf (Cert.KernelIdeal.Body.xBlock m c) := by
  have hb : Cert.KernelIdeal.Body.xBlock m c = Cert.KernelIdeal.Body.xOf m c := Cert.KernelIdeal.Body.block_x m c _
  rw [same_x m m' c h0, hb]
  funext i
  rw [eq_ix2 i]
  exact (Cert.ReferenceIdeal.Results.pay5_apply _ hX (i 0) (i 1)).trans (Cert.KernelIdeal.Body.codesOf_apply _ hX (i 0) (i 1)).symm

include h0 hX in
/-- The scale bytes are equal. -/
theorem bytes_eq : Cert.ReferenceIdeal.Gen.k0_pay4 (F := Ideal) (Cert.ReferenceIdeal.Results.xArg m' c)
    = Cert.KernelIdeal.Body.bytesOf (Cert.KernelIdeal.Body.xBlock m c) := by
  have hb : Cert.KernelIdeal.Body.xBlock m c = Cert.KernelIdeal.Body.xOf m c := Cert.KernelIdeal.Body.block_x m c _
  rw [same_x m m' c h0, hb]
  funext i
  rw [eq_ix2 i]
  exact (Cert.ReferenceIdeal.Results.pay4_apply _ hX (i 0) (i 1)).trans (Cert.KernelIdeal.Body.bytesOf_apply _ (i 0) (i 1)).symm

include h0 h1 h2 h3 hX in
/-- The losses are equal. -/
theorem loss_eq (hB : ∀ i, (Cert.KernelIdeal.Body.byteArg m c i).toNat ≠ 0 ∧ (Cert.KernelIdeal.Body.byteArg m c i).toNat ≠ 255)
    (hL : ∀ r, labelOf m c r < 30522) :
    Cert.ReferenceIdeal.Results.refLoss (Cert.ReferenceIdeal.Results.labArg m' c)
      (Cert.ReferenceIdeal.Results.refLogits (Cert.ReferenceIdeal.Results.xArg m' c) (Cert.ReferenceIdeal.Results.codeArg m' c) (Cert.ReferenceIdeal.Results.byteArg m' c))
      = Cert.KernelIdeal.Body.lossOf (Cert.KernelIdeal.Body.stateAt m c 29 Cert.KernelIdeal.Body.tLast.isLt) := by
  funext i
  rw [eq_ix2 i, show i 0 = (0 : Fin 1) from Subsingleton.elim (α := Fin 1) _ _]
  refine (Cert.ReferenceIdeal.Results.reference_loss m' c (by rw [same_x m m' c h0]; exact hX) (i 1) (labelOf m c (i 1)) (hL _)
    (reference_label m m' c h3 (i 1))).trans ?_
  rw [same_x m m' c h0, same_codes m m' c h1, same_bytes m m' c h2]
  exact (Cert.KernelIdeal.Body.kernel_loss m c hX hB (labelOf m c (i 1)) (hL _) (i 1) (kernel_label m c (i 1))).symm

end

/-- The kernel with the ideal mask and the reference end with equal results, whenever the inputs are finite, the scale bytes are
    powers of two and the labels are rows of the vocabulary. -/
theorem algebraic : algebraic_KernelIdeal_ReferenceIdeal_pre_sound (hKernelIdeal := Cert.KernelIdeal.Gen.facts)
    (hReferenceIdeal := Cert.ReferenceIdeal.Gen.facts) (hPre_sound := soundFacts) := by
  intro m g m' g' hpre hargs
  haveI := soundFacts
  refine ⟨fun c => Cert.KernelIdeal.Body.lossOf (Cert.KernelIdeal.Body.stateAt m c 29 Cert.KernelIdeal.Body.tLast.isLt),
    fun c => Cert.KernelIdeal.Body.codesOf (Cert.KernelIdeal.Body.xBlock m c),
    fun c => Cert.KernelIdeal.Body.bytesOf (Cert.KernelIdeal.Body.xBlock m c), Cert.KernelIdeal.Body.run_results m g, ?_⟩
  refine (θ_run _ _ _).mono (fun r h c => ?_) (Cert.ReferenceIdeal.Results.run_args m' g')
  obtain ⟨h0, h1, h2, h3⟩ := hargs c
  have hX : ∀ i, mag (Cert.KernelIdeal.Body.xOf m c i) ≤ limit := fun i => Cert.Sound.inputs _ _ _ _ (hpre c) _
  have hB : ∀ i, (Cert.KernelIdeal.Body.byteArg m c i).toNat ≠ 0 ∧ (Cert.KernelIdeal.Body.byteArg m c i).toNat ≠ 255 :=
    fun i => Cert.Sound.bytes _ _ _ _ (hpre c) i
  have hL : ∀ r, labelOf m c r < 30522 := fun r => Cert.Sound.labels _ _ _ _ (hpre c) _
  obtain ⟨e0, e1, e2, k⟩ := h c
  exact ⟨e0.trans (loss_eq m m' c h0 h1 h2 h3 hX hB hL), e1.trans (codes_eq m m' c h0 hX), e2.trans (bytes_eq m m' c h0 hX), k⟩

end Cert.Algebraic

end
-- ==== Proof.lean ====
/- The proof of the claim: the programs run to their ends, the kernel and its idealization differ in the mask alone, and the
   idealized kernel computes what the reference computes. -/
module

public import proofs.«01_k».proof.Defs
public import proofs.«01_k».proof.Proof.Gen.Kernel
public import proofs.«01_k».proof.Proof.KernelFrame
public import proofs.«01_k».proof.Proof.Gen.KernelIdeal
public import proofs.«01_k».proof.Proof.KFrame
public import proofs.«01_k».proof.Proof.Gen.ReferenceIdeal
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem

/-- The kernel's frames come from the runs of its body at the first, a middle and the last point, the reference's from the run of
    its one point; the rewritten constant is the mask; and the values are equal by `Cert.Algebraic.algebraic`. -/
theorem claim : Cert.Claim :=
  ⟨Cert.Kernel.Gen.facts, Cert.KernelIdeal.Gen.facts, Cert.ReferenceIdeal.Gen.facts, Cert.Algebraic.soundFacts,
    fun m ρ _ => Cert.Kernel.Gen.frame m ρ, fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ,
    IdealRules.named_const.statement Cert.KernelIdeal.κ "mask" .f32 0xF149F2CA#32 ⊥ rfl, Cert.Algebraic.algebraic⟩

end Cert.Proof

end
